-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_fit [hPre_scores_fit : Cert.Pre_scores_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scores_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_fit [hPre_scores_fit : Cert.Pre_scores_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_fit [hKernelIdeal : Cert.KernelIdeal.Facts] [hPre_scores_fit : Cert.Pre_scores_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_fit [hReferenceIdeal : Cert.ReferenceIdeal.Facts] [hPre_scores_fit : Cert.Pre_scores_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scores_fit [hKernelIdeal : Cert.KernelIdeal.Facts] [hReferenceIdeal : Cert.ReferenceIdeal.Facts] [hPre_scores_fit : Cert.Pre_scores_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scores_fit : Cert.Pre_scores_fit.Facts),
    quiescent_Kernel (hKernel := hKernel)
    ∧ quiescent_KernelIdeal (hKernelIdeal := hKernelIdeal)
    ∧ quiescent_KernelIdeal_pre_scores_fit (hKernelIdeal := hKernelIdeal) (hPre_scores_fit := hPre_scores_fit)
    ∧ quiescent_ReferenceIdeal (hReferenceIdeal := hReferenceIdeal)
    ∧ quiescent_ReferenceIdeal_pre_scores_fit (hReferenceIdeal := hReferenceIdeal) (hPre_scores_fit := hPre_scores_fit)
    ∧ preserves_Kernel_KernelIdeal
    ∧ algebraic_KernelIdeal_ReferenceIdeal_pre_scores_fit (hKernelIdeal := hKernelIdeal) (hReferenceIdeal := hReferenceIdeal) (hPre_scores_fit := hPre_scores_fit)
-- ==== Pre_scores_fit.lean ====
abbrev S4x512x20x64 : Shape := ⟨4, ![4, 512, 20, 64]⟩
abbrev S4x512x20 : Shape := ⟨3, ![4, 512, 20]⟩
abbrev S4x20 : Shape := ⟨2, ![4, 20]⟩
abbrev S4x20x64 : Shape := ⟨3, ![4, 20, 64]⟩
abbrev S4x1x20 : Shape := ⟨3, ![4, 1, 20]⟩
abbrev S_ : Shape := ⟨0, ![]⟩

class Facts : Prop where
  bcast_S4x20_S4x1x20_0_2 : S4x20.BroadcastsInDim S4x1x20 (![0, 2] : Fin 2 → Fin S4x1x20.rank)
  bcast_S4x1x20_S4x512x20_0_1_2 : S4x1x20.BroadcastsInDim S4x512x20 (![0, 1, 2] : Fin 3 → Fin S4x512x20.rank)
  bcast_S_S4x512x20 : S_.BroadcastsInDim S4x512x20 (![] : Fin 0 → Fin S4x512x20.rank)

variable [Facts]

def fn {F : FTy → Type} [FloatOps F] (main_arg0 : IVec S4x512x20x64 8) (main_arg1 : FVec F S4x512x20 .f32) (main_arg2 : IVec S4x512x20x64 8) (main_arg3 : FVec F S4x20 .f32) (main_arg4 : IVec S4x512x20x64 8) (main_arg5 : FVec F S4x20x64 .f32) : IVec S4x512x20 1 :=
  let main_v0 : FVec F S4x1x20 .f32 := broadcastInDim S4x1x20 ![0, 2] bcast_S4x20_S4x1x20_0_2 main_arg3
  let main_v1 : FVec F S4x512x20 .f32 := broadcastInDim S4x512x20 ![0, 1, 2] bcast_S4x1x20_S4x512x20_0_1_2 main_v0
  let main_v2 : FVec F S4x512x20 .f32 := mulf main_arg1 main_v1
  let main_v3 : FVec F S4x512x20 .f32 := Host.absf main_v2
  let main_cst : FVec F S_ .f32 := constant S_ .f32 0x437F0000#32
  let main_v4 : FVec F S4x512x20 .f32 := broadcastInDim S4x512x20 ![] bcast_S_S4x512x20 main_cst
  let main_v5 : IVec S4x512x20 1 := cmpf .ole main_v3 main_v4
  main_v5
-- ==== Kernel.lean ====
abbrev S4x512x20x64 : Shape := ⟨4, ![4, 512, 20, 64]⟩
abbrev S4x512x20 : Shape := ⟨3, ![4, 512, 20]⟩
abbrev S4x20 : Shape := ⟨2, ![4, 20]⟩
abbrev S4x20x64 : Shape := ⟨3, ![4, 20, 64]⟩
abbrev S4x20x64x512 : Shape := ⟨4, ![4, 20, 64, 512]⟩
abbrev S20x4x512 : Shape := ⟨3, ![20, 4, 512]⟩
abbrev S20x4x64 : Shape := ⟨3, ![20, 4, 64]⟩
abbrev S4x20x512x256 : Shape := ⟨4, ![4, 20, 512, 256]⟩
abbrev S4x1x64x512 : Shape := ⟨4, ![4, 1, 64, 512]⟩
abbrev S1x4x512 : Shape := ⟨3, ![1, 4, 512]⟩
abbrev S1x4x64 : Shape := ⟨3, ![1, 4, 64]⟩
abbrev S4x1x512x256 : Shape := ⟨4, ![4, 1, 512, 256]⟩
abbrev S512x256 : Shape := ⟨2, ![512, 256]⟩
abbrev S256x256 : Shape := ⟨2, ![256, 256]⟩
abbrev S64x64 : Shape := ⟨2, ![64, 64]⟩
abbrev S1x1x64x512 : Shape := ⟨4, ![1, 1, 64, 512]⟩
abbrev S64x512 : Shape := ⟨2, ![64, 512]⟩
abbrev S512x64 : Shape := ⟨2, ![512, 64]⟩
abbrev S1x1x512 : Shape := ⟨3, ![1, 1, 512]⟩
abbrev S1x512 : Shape := ⟨2, ![1, 512]⟩
abbrev S1x1 : Shape := ⟨2, ![1, 1]⟩
abbrev S1x1x64 : Shape := ⟨3, ![1, 1, 64]⟩
abbrev S1x64 : Shape := ⟨2, ![1, 64]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S32x256 : Shape := ⟨2, ![32, 256]⟩
abbrev S4x8x256 : Shape := ⟨3, ![4, 8, 256]⟩
abbrev S8x256 : Shape := ⟨2, ![8, 256]⟩
abbrev S256 : Shape := ⟨1, ![256]⟩
abbrev S16x256 : Shape := ⟨2, ![16, 256]⟩
abbrev S1x1x256x256 : Shape := ⟨4, ![1, 1, 256, 256]⟩
abbrev S1x1x64x256 : Shape := ⟨4, ![1, 1, 64, 256]⟩
abbrev S1x1x256 : Shape := ⟨3, ![1, 1, 256]⟩

abbrev nBuf : Space → Nat
  | .hbm => 14
  | .vmem => 20
  | .smem => 1
  | _ => 0

abbrev bufTy : (tb : Table) → Fin (tcTables nBuf tb) → BufTy
  | .hbm, ⟨0, _⟩ => ⟨S4x512x20x64, .i8⟩
  | .hbm, ⟨1, _⟩ => ⟨S4x512x20, .f32⟩
  | .hbm, ⟨2, _⟩ => ⟨S4x512x20x64, .i8⟩
  | .hbm, ⟨3, _⟩ => ⟨S4x20, .f32⟩
  | .hbm, ⟨4, _⟩ => ⟨S4x512x20x64, .i8⟩
  | .hbm, ⟨5, _⟩ => ⟨S4x20x64, .f32⟩
  | .hbm, ⟨6, _⟩ => ⟨S4x20x64x512, .i8⟩
  | .hbm, ⟨7, _⟩ => ⟨S4x20x64x512, .i8⟩
  | .hbm, ⟨8, _⟩ => ⟨S4x20x64x512, .i8⟩
  | .hbm, ⟨9, _⟩ => ⟨S20x4x512, .f32⟩
  | .hbm, ⟨10, _⟩ => ⟨S20x4x64, .f32⟩
  | .hbm, ⟨11, _⟩ => ⟨S4x20x64x512, .i8⟩
  | .hbm, ⟨12, _⟩ => ⟨S20x4x512, .f32⟩
  | .hbm, ⟨13, _⟩ => ⟨S4x20x512x256, .i8⟩
  | .local _ .vmem, ⟨0, _⟩ => ⟨S4x1x64x512, .i8⟩
  | .local _ .vmem, ⟨1, _⟩ => ⟨S4x1x64x512, .i8⟩
  | .local _ .vmem, ⟨2, _⟩ => ⟨S4x1x64x512, .i8⟩
  | .local _ .vmem, ⟨3, _⟩ => ⟨S4x1x64x512, .i8⟩
  | .local _ .vmem, ⟨4, _⟩ => ⟨S4x1x64x512, .i8⟩
  | .local _ .vmem, ⟨5, _⟩ => ⟨S4x1x64x512, .i8⟩
  | .local _ .vmem, ⟨6, _⟩ => ⟨S1x4x512, .f32⟩
  | .local _ .vmem, ⟨7, _⟩ => ⟨S1x4x512, .f32⟩
  | .local _ .vmem, ⟨8, _⟩ => ⟨S1x4x64, .f32⟩
  | .local _ .vmem, ⟨9, _⟩ => ⟨S1x4x64, .f32⟩
  | .local _ .vmem, ⟨10, _⟩ => ⟨S4x1x64x512, .i8⟩
  | .local _ .vmem, ⟨11, _⟩ => ⟨S4x1x64x512, .i8⟩
  | .local _ .vmem, ⟨12, _⟩ => ⟨S1x4x512, .f32⟩
  | .local _ .vmem, ⟨13, _⟩ => ⟨S1x4x512, .f32⟩
  | .local _ .vmem, ⟨14, _⟩ => ⟨S4x1x512x256, .i8⟩
  | .local _ .vmem, ⟨15, _⟩ => ⟨S4x1x512x256, .i8⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S256x256, .i32⟩
  | .local _ .smem, ⟨0, _⟩ => ⟨S4x20, .f32⟩
  | _, _ => ⟨S4x512x20x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![20], ![false]⟩

def k0_off1 (i : grid0.Coords) : Fin 2 → Nat :=
  let c0_14 : Index := 0#32
  let arg0 : BitVec 32 := BitVec.ofNat 32 (i 0).val
  let v15 : Index := Scalar.indexCast arg0
  ![0, v15.toNat]
def k0_off2 (i : grid0.Coords) : Fin 2 → Nat :=
  let c1_1174 : Index := 1#32
  let arg0 : BitVec 32 := BitVec.ofNat 32 (i 0).val
  let v2883 : Index := Scalar.indexCast arg0
  ![1, v2883.toNat]
def k0_off3 (i : grid0.Coords) : Fin 2 → Nat :=
  let c2_2369 : Index := 2#32
  let arg0 : BitVec 32 := BitVec.ofNat 32 (i 0).val
  let v5751 : Index := Scalar.indexCast arg0
  ![2, v5751.toNat]
def k0_off4 (i : grid0.Coords) : Fin 2 → Nat :=
  let c3_3564 : Index := 3#32
  let arg0 : BitVec 32 := BitVec.ofNat 32 (i 0).val
  let v8619 : Index := Scalar.indexCast arg0
  ![3, v8619.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x64x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x64x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S4x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x64x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x512x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x512x20x64 : Shape := ⟨4, ![4, 512, 20, 64]⟩
abbrev S4x512x20 : Shape := ⟨3, ![4, 512, 20]⟩
abbrev S4x20 : Shape := ⟨2, ![4, 20]⟩
abbrev S4x20x64 : Shape := ⟨3, ![4, 20, 64]⟩
abbrev S4x20x512x512 : Shape := ⟨4, ![4, 20, 512, 512]⟩
abbrev S4x1x20 : Shape := ⟨3, ![4, 1, 20]⟩
abbrev S_ : Shape := ⟨0, ![]⟩
abbrev S4x20x512 : Shape := ⟨3, ![4, 20, 512]⟩
abbrev S4x20x512x1 : Shape := ⟨4, ![4, 20, 512, 1]⟩
abbrev S4x20x512x256x2 : Shape := ⟨5, ![4, 20, 512, 256, 2]⟩
abbrev S4x20x512x256x1 : Shape := ⟨5, ![4, 20, 512, 256, 1]⟩
abbrev S4x20x512x256 : Shape := ⟨4, ![4, 20, 512, 256]⟩
abbrev S4x20x64x512 : Shape := ⟨4, ![4, 20, 64, 512]⟩
abbrev S4x1x20x64 : Shape := ⟨4, ![4, 1, 20, 64]⟩
abbrev S4x512x20x1 : Shape := ⟨4, ![4, 512, 20, 1]⟩
abbrev S20x4x512 : Shape := ⟨3, ![20, 4, 512]⟩

abbrev nBuf : Space → Nat
  | .hbm => 177
  | .vmem => 0
  | .smem => 0
  | _ => 0

abbrev hbmTy0_0 (i : Nat) : BufTy := match i % 128 with
  | 0 => ⟨S4x512x20x64, .i8⟩
  | 1 => ⟨S4x512x20, .f32⟩
  | 2 => ⟨S4x512x20x64, .i8⟩
  | 3 => ⟨S4x20, .f32⟩
  | 4 => ⟨S4x512x20x64, .i8⟩
  | 5 => ⟨S4x20x64, .f32⟩
  | 6 => ⟨S4x512x20x64, .i32⟩
  | 7 => ⟨S4x512x20x64, .f32⟩
  | 8 => ⟨S4x512x20x64, .bf16⟩
  | 9 => ⟨S4x512x20x64, .i32⟩
  | 10 => ⟨S4x512x20x64, .f32⟩
  | 11 => ⟨S4x512x20x64, .bf16⟩
  | 12 => ⟨S4x512x20x64, .i32⟩
  | 13 => ⟨S4x512x20x64, .f32⟩
  | 14 => ⟨S4x512x20x64, .bf16⟩
  | 15 => ⟨S4x20x512x512, .f32⟩
  | 16 => ⟨S4x1x20, .f32⟩
  | 17 => ⟨S4x512x20, .f32⟩
  | 18 => ⟨S4x512x20, .f32⟩
  | 19 => ⟨S_, .f32⟩
  | 20 => ⟨S4x512x20, .f32⟩
  | 21 => ⟨S4x512x20, .f32⟩
  | 22 => ⟨S4x20x512, .f32⟩
  | 23 => ⟨S4x20x512x1, .f32⟩
  | 24 => ⟨S4x20x512x512, .f32⟩
  | 25 => ⟨S4x20x512x512, .f32⟩
  | 26 => ⟨S4x20x512x512, .f32⟩
  | 27 => ⟨S4x20x512x512, .i32⟩
  | 28 => ⟨S_, .i32⟩
  | 29 => ⟨S4x20x512, .i32⟩
  | 30 => ⟨S4x20x512x1, .i32⟩
  | 31 => ⟨S4x20x512x512, .i32⟩
  | 32 => ⟨S4x20x512x512, .i32⟩
  | 33 => ⟨S4x20x512x512, .i32⟩
  | 34 => ⟨S_, .i32⟩
  | 35 => ⟨S4x20x512x512, .i32⟩
  | 36 => ⟨S4x20x512x512, .i32⟩
  | 37 => ⟨S4x20x512x512, .f32⟩
  | 38 => ⟨S_, .f32⟩
  | 39 => ⟨S4x20x512x512, .f32⟩
  | 40 => ⟨S4x20x512x512, .f32⟩
  | 41 => ⟨S_, .f32⟩
  | 42 => ⟨S4x20x512x512, .f32⟩
  | 43 => ⟨S4x20x512x512, .f32⟩
  | 44 => ⟨S4x20x512x512, .f32⟩
  | 45 => ⟨S4x20x512x512, .i32⟩
  | 46 => ⟨S_, .i32⟩
  | 47 => ⟨S4x20x512x512, .i32⟩
  | 48 => ⟨S4x20x512x512, .i32⟩
  | 49 => ⟨S4x20x512x512, .i32⟩
  | 50 => ⟨S_, .i32⟩
  | 51 => ⟨S4x20x512x512, .i32⟩
  | 52 => ⟨S4x20x512x512, .i32⟩
  | 53 => ⟨S4x20x512x512, .i32⟩
  | 54 => ⟨S_, .i32⟩
  | 55 => ⟨S4x20x512x512, .i32⟩
  | 56 => ⟨S4x20x512x512, .i32⟩
  | 57 => ⟨S_, .i32⟩
  | 58 => ⟨S4x20x512x512, .i32⟩
  | 59 => ⟨S4x20x512x512, .i32⟩
  | 60 => ⟨S4x20x512x512, .i32⟩
  | 61 => ⟨S_, .i32⟩
  | 62 => ⟨S4x20x512, .i32⟩
  | 63 => ⟨S4x20x512x1, .i32⟩
  | 64 => ⟨S_, .i32⟩
  | 65 => ⟨S4x20x512x1, .i32⟩
  | 66 => ⟨S4x20x512x1, .i32⟩
  | 67 => ⟨S4x20x512x512, .i32⟩
  | 68 => ⟨S4x20x512x512, .i32⟩
  | 69 => ⟨S_, .i32⟩
  | 70 => ⟨S4x20x512x512, .i32⟩
  | 71 => ⟨S4x20x512x512, .i32⟩
  | 72 => ⟨S_, .i32⟩
  | 73 => ⟨S4x20x512x512, .i32⟩
  | 74 => ⟨S4x20x512x512, .i32⟩
  | 75 => ⟨S4x20x512x512, .f32⟩
  | 76 => ⟨S4x20x512x512, .f32⟩
  | 77 => ⟨S4x20x512x512, .f32⟩
  | 78 => ⟨S4x20x512x512, .f32⟩
  | 79 => ⟨S_, .f32⟩
  | 80 => ⟨S_, .f32⟩
  | 81 => ⟨S_, .f32⟩
  | 82 => ⟨S4x20x512x512, .f32⟩
  | 83 => ⟨S4x20x512x512, .f32⟩
  | 84 => ⟨S_, .f32⟩
  | 85 => ⟨S4x20x512x512, .f32⟩
  | 86 => ⟨S4x20x512x512, .f32⟩
  | 87 => ⟨S4x20x512x512, .i32⟩
  | 88 => ⟨S4x20x512x512, .i32⟩
  | 89 => ⟨S4x20x512x512, .i1⟩
  | 90 => ⟨S4x20x512x512, .i32⟩
  | 91 => ⟨S4x20x512x512, .i32⟩
  | 92 => ⟨S_, .i32⟩
  | 93 => ⟨S4x20x512x512, .i32⟩
  | 94 => ⟨S4x20x512x512, .i32⟩
  | 95 => ⟨S4x20x512x512, .i32⟩
  | 96 => ⟨S4x20x512x512, .i1⟩
  | 97 => ⟨S4x20x512x512, .i32⟩
  | 98 => ⟨S4x20x512x512, .i32⟩
  | 99 => ⟨S_, .i32⟩
  | 100 => ⟨S4x20x512x512, .i32⟩
  | 101 => ⟨S4x20x512x512, .i32⟩
  | 102 => ⟨S4x20x512x512, .i32⟩
  | 103 => ⟨S_, .i32⟩
  | 104 => ⟨S4x20x512x512, .i32⟩
  | 105 => ⟨S4x20x512x512, .i32⟩
  | 106 => ⟨S_, .i32⟩
  | 107 => ⟨S4x20x512x512, .i32⟩
  | 108 => ⟨S4x20x512x512, .i32⟩
  | 109 => ⟨S_, .i32⟩
  | 110 => ⟨S4x20x512x512, .i32⟩
  | 111 => ⟨S4x20x512x512, .i32⟩
  | 112 => ⟨S_, .i32⟩
  | 113 => ⟨S4x20x512x512, .i32⟩
  | 114 => ⟨S4x20x512x512, .i32⟩
  | 115 => ⟨S4x20x512x512, .i32⟩
  | 116 => ⟨S4x20x512x512, .i1⟩
  | 117 => ⟨S4x20x512x512, .i32⟩
  | 118 => ⟨S4x20x512x512, .i32⟩
  | 119 => ⟨S_, .i32⟩
  | 120 => ⟨S4x20x512x512, .i32⟩
  | 121 => ⟨S4x20x512x512, .i1⟩
  | 122 => ⟨S_, .i32⟩
  | 123 => ⟨S4x20x512x512, .i32⟩
  | 124 => ⟨S4x20x512x512, .i32⟩
  | 125 => ⟨S4x20x512x256x2, .i32⟩
  | 126 => ⟨S4x20x512x256x1, .i32⟩
  | 127 => ⟨S4x20x512x256, .i32⟩
  | _ => ⟨S4x512x20x64, .i8⟩

abbrev hbmTy0_1 (i : Nat) : BufTy := match i % 128 with
  | 0 => ⟨S4x20x512x256x1, .i32⟩
  | 1 => ⟨S4x20x512x256, .i32⟩
  | 2 => ⟨S_, .i32⟩
  | 3 => ⟨S4x20x512x256, .i32⟩
  | 4 => ⟨S4x20x512x256, .i32⟩
  | 5 => ⟨S4x20x512x256, .i32⟩
  | 6 => ⟨S4x20x512x256, .i8⟩
  | 7 => ⟨S_, .i32⟩
  | 8 => ⟨S4x20x512x512, .i32⟩
  | 9 => ⟨S4x20x512x512, .i32⟩
  | 10 => ⟨S_, .i32⟩
  | 11 => ⟨S4x20x512x512, .i32⟩
  | 12 => ⟨S4x20x512x512, .i32⟩
  | 13 => ⟨S4x20x512x512, .f32⟩
  | 14 => ⟨S4x20x512x512, .bf16⟩
  | 15 => ⟨S4x20x64x512, .f32⟩
  | 16 => ⟨S4x512x20x64, .f32⟩
  | 17 => ⟨S4x1x20x64, .f32⟩
  | 18 => ⟨S4x512x20x64, .f32⟩
  | 19 => ⟨S4x512x20x64, .f32⟩
  | 20 => ⟨S4x512x20x64, .f32⟩
  | 21 => ⟨S_, .f32⟩
  | 22 => ⟨S4x512x20, .f32⟩
  | 23 => ⟨S4x512x20x1, .f32⟩
  | 24 => ⟨S_, .f32⟩
  | 25 => ⟨S4x512x20x1, .f32⟩
  | 26 => ⟨S4x512x20x1, .i1⟩
  | 27 => ⟨S_, .f32⟩
  | 28 => ⟨S4x512x20x1, .f32⟩
  | 29 => ⟨S4x512x20x1, .f32⟩
  | 30 => ⟨S_, .f32⟩
  | 31 => ⟨S4x512x20x1, .f32⟩
  | 32 => ⟨S4x512x20x1, .f32⟩
  | 33 => ⟨S4x512x20x64, .f32⟩
  | 34 => ⟨S4x512x20x64, .f32⟩
  | 35 => ⟨S4x512x20x64, .f32⟩
  | 36 => ⟨S_, .i32⟩
  | 37 => ⟨S_, .i32⟩
  | 38 => ⟨S_, .f32⟩
  | 39 => ⟨S4x512x20x64, .f32⟩
  | 40 => ⟨S4x512x20x64, .f32⟩
  | 41 => ⟨S_, .f32⟩
  | 42 => ⟨S4x512x20x64, .f32⟩
  | 43 => ⟨S4x512x20x64, .f32⟩
  | 44 => ⟨S4x512x20x64, .i32⟩
  | 45 => ⟨S4x512x20x64, .i8⟩
  | 46 => ⟨S4x20x64x512, .i8⟩
  | 47 => ⟨S4x512x20, .f32⟩
  | 48 => ⟨S20x4x512, .f32⟩
  | _ => ⟨S4x512x20x64, .i8⟩

abbrev hbmTy (i : Nat) : BufTy := match i / 128 with
  | 0 => hbmTy0_0 i
  | 1 => hbmTy0_1 i
  | _ => ⟨S4x512x20x64, .i8⟩

abbrev bufTy : (tb : Table) → Fin (tcTables nBuf tb) → BufTy
  | .hbm, ⟨i, _⟩ => hbmTy i
  | _, _ => ⟨S4x512x20x64, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_19 : Ref sig .tc := ⟨.hbm, 119, rfl⟩
abbrev main_v87 : Ref sig .tc := ⟨.hbm, 120, rfl⟩
abbrev main_v88 : Ref sig .tc := ⟨.hbm, 121, rfl⟩
abbrev main_c_20 : Ref sig .tc := ⟨.hbm, 122, rfl⟩
abbrev main_call2_v0 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_v99 : Ref sig .tc := ⟨.hbm, 136, rfl⟩
abbrev main_v100 : Ref sig .tc := ⟨.hbm, 137, rfl⟩
abbrev main_c_23 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_24 : Ref sig .tc := ⟨.hbm, 149, rfl⟩
abbrev main_v111 : Ref sig .tc := ⟨.hbm, 150, rfl⟩
abbrev main_v112 : Ref sig .tc := ⟨.hbm, 151, rfl⟩
abbrev main_cst_25 : Ref sig .tc := ⟨.hbm, 152, rfl⟩
abbrev main_v113 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_v116 : Ref sig .tc := ⟨.hbm, 157, rfl⟩
abbrev main_cst_27 : Ref sig .tc := ⟨.hbm, 158, rfl⟩
abbrev main_call3_v0 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_28 : Ref sig .tc := ⟨.hbm, 164, rfl⟩
abbrev main_c_29 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]
-- ==== Proof.Frames.lean ====
/- The frames: each of the three programs runs, leaves its arguments as they were and ends with every semaphore at
   zero. The kernel's two are the generated ones; the reference's is its generated run with the results left out. -/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.KernelIdeal.Value
public import proofs.«01_k».proof.Proof.Gen.ReferenceIdeal.Run

@[expose] public section

namespace Cert.Proof

open Idealize.ShloMosaic

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

end Cert.Proof
-- ==== Proof.Tile.lean ====
/-
  What the kernel's stores leave, in closed form. One grid point runs eight tiles, one after the other: batch `n / 2`, query half `n % 2`
  for `n = 0 … 7`. A tile fills its four scratch buffers in sixteen row blocks and then reads them back. Here the lists of stores the run
  found are written once for a tile number `n`, and reading a scratch buffer back after tile `n` is shown to give that tile's row blocks
  and nothing of the tiles before it.
-/
module

public import proofs.«01_k».proof.Proof.Gen.KernelIdeal.Frame
public import Idealize.ShloMosaic.Lib.Pipeline.CanonAppend
public import Idealize.ShloMosaic.Lib.ValueIdx
public import Idealize.ShloMosaic.Lib.WholeRead
public import Idealize.ShloMosaic.Lib.Tactic

@[expose] public section

set_option synthInstance.maxSize 4096

noncomputable section

namespace Cert.KernelIdeal.Tile

open Idealize.ShloMosaic Idealize.SL.Sem Cert.KernelIdeal.Gen

variable {F : FTy → Type} [FloatOps F]

/-! ## Row blocks -/

theorem rows_inb (k : Fin 16) : ∀ a, (![32 * k.1, 0] : Fin 2 → ℕ) a + S32x256.size a ≤ S512x256.size a := by
  revert k; decide

theorem halves_inb (k : Fin 16) : ∀ a, (![16 * k.1, 0] : Fin 2 → ℕ) a + S16x256.size a ≤ S256x256.size a := by
  revert k; decide

/-- Row block `k` of a 512-row buffer: 32 rows. -/
def rows (k : Fin 16) : Rect S512x256 := Rect.unit ![32 * k.1, 0] S32x256.size (rows_inb k)
/-- Row block `k` of a 256-row buffer: 16 rows. -/
def halves (k : Fin 16) : Rect S256x256 := Rect.unit ![16 * k.1, 0] S16x256.size (halves_inb k)

/-- Sixteen things, the last first. -/
def down {α : Type} (f : Fin 16 → α) : List α :=
  [f 15, f 14, f 13, f 12, f 11, f 10, f 9, f 8, f 7, f 6, f 5, f 4, f 3, f 2, f 1, f 0]

/-- The stores of the sixteen row blocks of a 512-row buffer, the last first. -/
def rowPieces {e : EltTy} (P : Fin 16 → Vec F S32x256 e) : List (View.Piece (Elt F) S512x256 e) := down fun k => ⟨rows k, P k⟩
/-- The stores of the sixteen row blocks of a 256-row buffer, the last first. -/
def halfPieces {e : EltTy} (P : Fin 16 → Vec F S16x256 e) : List (View.Piece (Elt F) S256x256 e) := down fun k => ⟨halves k, P k⟩

/-! ## One tile, block by block -/

theorem slices_rows (k : Fin 16) : S512x256.Slices ![32 * k.1, 0] S32x256 := by revert k; decide

/-- The scores of row block `k`: the dot products times the column's factor. -/
def tRaw (m : FVec F S1x256 .f32) (acc : FVec F S512x256 .f32) (k : Fin 16) : FVec F S32x256 .f32 :=
  mulf (extractStridedSlice S32x256 ![32 * k.1, 0] acc (slices_rows k)) (broadcastTo S32x256 m broadcasts_S1x256_S32x256)
def tP (m : FVec F S1x256 .f32) (acc : FVec F S512x256 .f32) (k : Fin 16) : FVec F S32x256 .f32 :=
  shapeCast S32x256 (tRaw m acc k) shapeCasts_S32x256_S32x256

/-- The block's column maxima, eight rows of them. -/
def blkMax (x : FVec F S32x256 .f32) : FVec F S8x256 .f32 :=
  multiReduction .maximumf [0] S8x256 (shapeCast S4x8x256 x shapeCasts_S32x256_S4x8x256) 0xFF800000#32 reduces_S4x8x256_S8x256 (.inl rfl) rfl
/-- The block's column sums, eight rows of them. -/
def blkSum (x : FVec F S32x256 .f32) : FVec F S8x256 .f32 :=
  multiReduction .add [0] S8x256 (shapeCast S4x8x256 x shapeCasts_S32x256_S4x8x256) 0x00000000#32 reduces_S4x8x256_S8x256 (.inl rfl) rfl

def accMax (P : Fin 16 → FVec F S32x256 .f32) : ℕ → FVec F S8x256 .f32
  | 0 => blkMax (P 0)
  | n + 1 => maximumf (accMax P n) (blkMax (P (Fin.ofNat 16 (n + 1))))
def accSum (P : Fin 16 → FVec F S32x256 .f32) : ℕ → FVec F S8x256 .f32
  | 0 => blkSum (P 0)
  | n + 1 => addf (accSum P n) (blkSum (P (Fin.ofNat 16 (n + 1))))

/-- The rounded column maximum of all sixteen blocks. -/
def smaxOf (P : Fin 16 → FVec F S32x256 .f32) : FVec F S1x256 .f32 :=
  roundeven (shapeCast S1x256 (multiReduction .maximumf [0] S256 (accMax P 15) 0xFF800000#32 reduces_S8x256_S256 (.inl rfl) rfl)
    shapeCasts_S256_S1x256)
/-- The column sum of all sixteen blocks, and a quarter. -/
def totalOf (P : Fin 16 → FVec F S32x256 .f32) : FVec F S1x256 .f32 :=
  addf (shapeCast S1x256 (multiReduction .add [0] S256 (accSum P 15) 0x00000000#32 reduces_S8x256_S256 (.inl rfl) rfl) shapeCasts_S256_S1x256)
    (broadcast S1x256 (Scalar.ofBits .f32 0x3E800000#32))

/-- The integer exponentials of a block of scores, as stored. -/
def eP (s : FVec F S1x256 .f32) (x : Vec F S32x256 .f32) : FVec F S32x256 .f32 :=
  shapeCast S32x256 (k0_pay50 s x) shapeCasts_S32x256_S32x256

/-- The 32-bit words of a block of rounded ratios, with the code bias added. -/
def wordsOf (total : FVec F S1x256 .f32) (x : Vec F S32x256 .f32) : IVec S32x256 32 :=
  have r : IVec S32x256 32 := fptosi 32 (minimumf (roundeven (mulf (broadcastTo S32x256 total broadcasts_S1x256_S32x256)
    (divf (broadcast S32x256 (Scalar.ofBits .f32 0x3F800000#32)) x))) (broadcast S32x256 (Scalar.ofBits .f32 0x47000000#32)))
  have k : IVec S32x256 32 := subi (broadcast S32x256 31#32) (ctlz r)
  addi (addi (shli (addi (broadcast S32x256 127#32) k) (broadcast S32x256 23#32))
    (shli (subi r (shli (broadcast S32x256 1#32) k)) (subi (broadcast S32x256 23#32) k))) (broadcast S32x256 13269772#32)
/-- Two exponent fields to a word. -/
def pairsOf (total : FVec F S1x256 .f32) (x : Vec F S32x256 .f32) : IVec S16x256 32 := k0_pay108 (wordsOf total x) 16#32
def wP (total : FVec F S1x256 .f32) (x : Vec F S32x256 .f32) : FVec F S32x256 .bf16 :=
  shapeCast S32x256 (bitcastToFloat .bf16 (bitcast S32x256 16 (pairsOf total x) bitcasts_S16x256_w32_S32x256_w16)) shapeCasts_S32x256_S32x256
def cP (total : FVec F S1x256 .f32) (x : Vec F S32x256 .f32) : IVec S16x256 32 :=
  shapeCast S16x256 (xori (shrui (pairsOf total x) (broadcast S16x256 7#32)) (shrui (pairsOf total x) (broadcast S16x256 19#32)))
    shapeCasts_S16x256_S16x256

/-! ## The eight tiles -/

section Run

variable (m : ℕ → FVec F S1x256 .f32) (acc : ℕ → FVec F S512x256 .f32)
  (a10 a11 : Memref sig .tc .vmem S512x256 .f32) (a12 : Memref sig .tc .vmem S512x256 .bf16) (a13 : Memref sig .tc .vmem S256x256 .i32)

/-- The stores into the scores' scratch after `n` tiles, the last first. -/
def L0 : ℕ → List (View.Piece (Elt F) S512x256 .f32)
  | 0 => []
  | n + 1 => rowPieces (e := .f32) (tP (m n) (acc n)) ++ L0 n

/-- Row block `k` of tile `n`'s scores, read back. -/
def ld0 (n : ℕ) (k : Fin 16) : Vec F S32x256 .f32 := a10.view.readCov (L0 m acc (n + 1)) (rows k).toLoadRect

/-- Tile `n`'s rounded maxima. -/
def sm (n : ℕ) : FVec F S1x256 .f32 := smaxOf (tRaw (m n) (acc n))

/-- The stores into the exponentials' scratch after `n` tiles. -/
def L1 : ℕ → List (View.Piece (Elt F) S512x256 .f32)
  | 0 => []
  | n + 1 => rowPieces (e := .f32) (fun k => eP (sm m acc n) (ld0 m acc a10 n k)) ++ L1 n

def ld1 (n : ℕ) (k : Fin 16) : Vec F S32x256 .f32 := a11.view.readCov (L1 m acc a10 (n + 1)) (rows k).toLoadRect

def tot (n : ℕ) : FVec F S1x256 .f32 := totalOf fun k => k0_pay50 (sm m acc n) (ld0 m acc a10 n k)

/-- The stores into the weights' scratch after `n` tiles. -/
def L2 : ℕ → List (View.Piece (Elt F) S512x256 .bf16)
  | 0 => []
  | n + 1 => rowPieces (e := .bf16) (fun k => wP (tot m acc a10 n) (ld1 m acc a10 a11 n k)) ++ L2 n

/-- The stores into the codes' scratch after `n` tiles. -/
def L3 : ℕ → List (View.Piece (Elt F) S256x256 .i32)
  | 0 => []
  | n + 1 => halfPieces (e := .i32) (fun k => cP (tot m acc a10 n) (ld1 m acc a10 a11 n k)) ++ L3 n

/-- Tile `n`'s weights, read back whole. -/
def ldW (n : ℕ) : Vec F S512x256 .bf16 :=
  a12.view.readCov (L2 m acc a10 a11 (n + 1)) (Rect.unit ![0, 0] S512x256.size inb_S512x256_S512x256_0_0).toLoadRect
/-- Tile `n`'s paired codes, read back whole. -/
def ldC (n : ℕ) : Vec F S256x256 .i32 :=
  a13.view.readCov (L3 m acc a10 a11 (n + 1)) (Rect.unit ![0, 0] S256x256.size inb_S256x256_S256x256_0_0).toLoadRect

end Run

/-! ## The tiles' inputs -/

theorem in4_inb (b : Fin 4) : ∀ a, (![b.1, 0, 0, 0] : Fin 4 → ℕ) a + S1x1x64x512.size a ≤ S4x1x64x512.size a := by revert b; decide
theorem qs_inb (b : Fin 4) : ∀ a, (![0, b.1, 0] : Fin 3 → ℕ) a + S1x1x512.size a ≤ S1x4x512.size a := by revert b; decide
theorem vs_inb (b : Fin 4) : ∀ a, (![0, b.1, 0] : Fin 3 → ℕ) a + S1x1x64.size a ≤ S1x4x64.size a := by revert b; decide
theorem half_acc (n : ℕ) : S64x512.Slices ![0, 256 * (n % 2)] S64x256 := by
  rcases Nat.mod_two_eq_zero_or_one n with h | h <;> rw [h] <;> decide
theorem half_m (n : ℕ) : S1x512.Slices ![0, 256 * (n % 2)] S1x256 := by
  rcases Nat.mod_two_eq_zero_or_one n with h | h <;> rw [h] <;> decide

def batch (n : ℕ) : Fin 4 := Fin.ofNat 4 (n / 2)

/-- Batch `b` of a four-batch code block, as loaded. -/
def codesAt (M : Memref sig .tc .vmem S4x1x64x512 .i8) (hM : M.IsWhole) (x : Vec F S4x1x64x512 .i8) (b : Fin 4) : Vec F S1x1x64x512 .i8 :=
  View.readAt (Elt F) M.view (Rect.unit (s := S4x1x64x512) ![b.1, 0, 0, 0] S1x1x64x512.size (in4_inb b)).toLoadRect (hM.unread x)
def qsAt (M : Memref sig .tc .vmem S1x4x512 .f32) (hM : M.IsWhole) (x : Vec F S1x4x512 .f32) (b : Fin 4) : Vec F S1x1x512 .f32 :=
  View.readAt (Elt F) M.view (Rect.unit (s := S1x4x512) ![0, b.1, 0] S1x1x512.size (qs_inb b)).toLoadRect (hM.unread x)
def vsAt (M : Memref sig .tc .vmem S1x4x64 .f32) (hM : M.IsWhole) (x : Vec F S1x4x64 .f32) (b : Fin 4) : Vec F S1x1x64 .f32 :=
  View.readAt (Elt F) M.view (Rect.unit (s := S1x4x64) ![0, b.1, 0] S1x1x64.size (vs_inb b)).toLoadRect (hM.unread x)
theorem one_pos11 : 0 < S1x1.numel := by decide
def ksAt (i : grid0.Coords) (M : Memref sig .tc .smem S4x20 .f32) (hM : M.IsWhole) (x : Vec F S4x20 .f32) (b : Fin 4) : Elt F .f32 :=
  match b with
  | 0 => View.readAt (Elt F) M.view (Rect.unit (s := S4x20) (k0_off1 i) S1x1.size (k0_off1_inb i)).toLoadRect (hM.unread x) (Shape.Idx.first one_pos11)
  | 1 => View.readAt (Elt F) M.view (Rect.unit (s := S4x20) (k0_off2 i) S1x1.size (k0_off2_inb i)).toLoadRect (hM.unread x) (Shape.Idx.first one_pos11)
  | 2 => View.readAt (Elt F) M.view (Rect.unit (s := S4x20) (k0_off3 i) S1x1.size (k0_off3_inb i)).toLoadRect (hM.unread x) (Shape.Idx.first one_pos11)
  | 3 => View.readAt (Elt F) M.view (Rect.unit (s := S4x20) (k0_off4 i) S1x1.size (k0_off4_inb i)).toLoadRect (hM.unread x) (Shape.Idx.first one_pos11)

/-- The factor of a tile's columns. -/
def mOf (qs : Fin 4 → Vec F S1x1x512 .f32) (ks : Fin 4 → Elt F .f32) (n : ℕ) : FVec F S1x256 .f32 :=
  extractStridedSlice S1x256 ![0, 256 * (n % 2)] (k0_pay8 (qs (batch n)) (ks (batch n))) (half_m n)
/-- A tile's dot products. -/
def accOf (q k : Fin 4 → Vec F S1x1x64x512 .i8) (n : ℕ) : FVec F S512x256 .f32 :=
  matmul dot_S512x64_S64x256_S512x256_1_0_0_1_n_n none (k0_pay5 (k (batch n)))
    (extractStridedSlice S64x256 ![0, 256 * (n % 2)] (k0_pay6 (q (batch n))) (half_acc n)) (constant S512x256 .f32 0x00000000#32)

/-! ## The results of a tile -/

def ocOf (v : FVec F S64x512 .bf16) (vs : FVec F S64x1 .f32) (w : Vec F S512x256 .bf16) : IVec S1x1x64x256 8 :=
  k0_pay189 (k0_pay184 v vs w) (k0_pay186 v vs w) (k0_pay187 v vs w) (Scalar.ofBits .f32 0x3F800000#32)
def osOf (v : FVec F S64x512 .bf16) (vs : FVec F S64x1 .f32) (w : Vec F S512x256 .bf16) : FVec F S1x1x256 .f32 :=
  k0_pay190 (k0_pay186 v vs w) (k0_pay187 v vs w) (Scalar.ofBits .f32 0x3F800000#32)

theorem oc_inb (n : Fin 8) : ∀ a, (![n.1 / 2, 0, 0, 256 * (n.1 % 2)] : Fin 4 → ℕ) a + S1x1x64x256.size a ≤ S4x1x64x512.size a := by
  revert n; decide
theorem os_inb (n : Fin 8) : ∀ a, (![0, n.1 / 2, 256 * (n.1 % 2)] : Fin 3 → ℕ) a + S1x1x256.size a ≤ S1x4x512.size a := by
  revert n; decide
theorem pk_inb (n : Fin 8) : ∀ a, (![n.1 / 2, 0, 256 * (n.1 % 2), 0] : Fin 4 → ℕ) a + S1x1x256x256.size a ≤ S4x1x512x256.size a := by
  revert n; decide
def ocRect (n : Fin 8) : Rect S4x1x64x512 := Rect.unit ![n.1 / 2, 0, 0, 256 * (n.1 % 2)] S1x1x64x256.size (oc_inb n)
def osRect (n : Fin 8) : Rect S1x4x512 := Rect.unit ![0, n.1 / 2, 256 * (n.1 % 2)] S1x1x256.size (os_inb n)
def pkRect (n : Fin 8) : Rect S4x1x512x256 := Rect.unit ![n.1 / 2, 0, 256 * (n.1 % 2), 0] S1x1x256x256.size (pk_inb n)

/-- Eight things, the last first. -/
def down8 {α : Type} (f : Fin 8 → α) : List α := [f 7, f 6, f 5, f 4, f 3, f 2, f 1, f 0]

end Cert.KernelIdeal.Tile
-- ==== Proof.ReadBack.lean ====
/-
  Reading a scratch buffer back. The sixteen row blocks a tile stores cover the whole buffer, so a load after them sees those blocks alone,
  whatever the earlier tiles stored there.
-/
module

public import proofs.«01_k».proof.Proof.Tile

@[expose] public section

set_option synthInstance.maxSize 4096

noncomputable section

namespace Cert.KernelIdeal.Tile

open Idealize.ShloMosaic Idealize.ShloMosaic.ValueIdx Idealize.SL.Sem Cert.KernelIdeal.Gen

variable {F : FTy → Type} [FloatOps F]

theorem down_eq {α : Type} (f : Fin 16 → α) : down f = (List.finRange 16).reverse.map f := rfl
theorem mem_down {α : Type} (f : Fin 16 → α) (p : α) : p ∈ down f ↔ ∃ k, f k = p := by rw [down_eq]; simp

/-- The buffer whose row block `k` is `P k`. -/
def glue {α : Type} (P : Fin 16 → S32x256.Idx → α) : S512x256.Idx → α := fun y =>
  P ⟨(y 0).val / 32, by have := idx2_lt0 y; omega⟩ (ix2 ⟨(y 0).val % 32, Nat.mod_lt _ (by decide)⟩ (y 1))
def glueH {α : Type} (P : Fin 16 → S16x256.Idx → α) : S256x256.Idx → α := fun y =>
  P ⟨(y 0).val / 16, by have := idx2_lt0 y; omega⟩ (ix2 ⟨(y 0).val % 16, Nat.mod_lt _ (by decide)⟩ (y 1))

theorem glue_emb {α : Type} (P : Fin 16 → S32x256.Idx → α) (k : Fin 16) (x : S32x256.Idx) : glue P ((rows k).emb x) = P k x := by
  have h0 : ((rows k).emb x 0).val = 32 * k.1 + (x 0).val := by
    show 32 * k.1 + 1 * (x 0).val = _; omega
  have h1 : ((rows k).emb x 1).val = (x 1).val := by
    show 0 + 1 * (x 1).val = _; omega
  have hx := idx2_lt0 x
  unfold glue
  have e1 : (⟨((rows k).emb x 0).val / 32, by have := k.isLt; omega⟩ : Fin 16) = k := Fin.ext (by show _ / 32 = _; omega)
  rw [e1]
  congr 1
  conv_rhs => rw [eq_ix2 x]
  congr 1
  · exact Fin.ext (by show _ % 32 = (x 0).val; omega)
  · exact Fin.ext h1

theorem glueH_emb {α : Type} (P : Fin 16 → S16x256.Idx → α) (k : Fin 16) (x : S16x256.Idx) : glueH P ((halves k).emb x) = P k x := by
  have h0 : ((halves k).emb x 0).val = 16 * k.1 + (x 0).val := by
    show 16 * k.1 + 1 * (x 0).val = _; omega
  have h1 : ((halves k).emb x 1).val = (x 1).val := by
    show 0 + 1 * (x 1).val = _; omega
  have hx := idx2_lt0 x
  unfold glueH
  have e1 : (⟨((halves k).emb x 0).val / 16, by have := k.isLt; omega⟩ : Fin 16) = k := Fin.ext (by show _ / 16 = _; omega)
  rw [e1]
  congr 1
  conv_rhs => rw [eq_ix2 x]
  congr 1
  · exact Fin.ext (by show _ % 16 = (x 0).val; omega)
  · exact Fin.ext h1

theorem canon_rowPieces {e : EltTy} (P : Fin 16 → Vec F S32x256 e) (L' : List (View.Piece (Elt F) S512x256 e)) (y : S512x256.Idx) :
    View.canon (rowPieces P ++ L') y = glue P y := by
  refine View.canon_append_of_pieces (glue P) L' (rowPieces P) (fun p hp x => ?_) y ?_
  · obtain ⟨k, rfl⟩ := (mem_down _ _).mp hp
    exact (glue_emb P k x).symm
  · have hy := idx2_lt0 y
    refine ⟨_, (mem_down _ _).mpr ⟨⟨(y 0).val / 32, by omega⟩, rfl⟩, ?_⟩
    show y ∈ (Rect.unit (s := S512x256) _ _ (rows_inb _)).set
    rw [Rect.mem_set_unit]
    intro a
    match a with
    | ⟨0, _⟩ => exact ⟨by show 32 * ((y 0).val / 32) ≤ (y 0).val; omega, by show (y 0).val < 32 * ((y 0).val / 32) + 32; omega⟩
    | ⟨1, _⟩ => exact ⟨Nat.zero_le _, by show (y 1).val < 0 + 256; have := idx2_lt1 y; omega⟩

theorem canon_halfPieces {e : EltTy} (P : Fin 16 → Vec F S16x256 e) (L' : List (View.Piece (Elt F) S256x256 e)) (y : S256x256.Idx) :
    View.canon (halfPieces P ++ L') y = glueH P y := by
  refine View.canon_append_of_pieces (glueH P) L' (halfPieces P) (fun p hp x => ?_) y ?_
  · obtain ⟨k, rfl⟩ := (mem_down _ _).mp hp
    exact (glueH_emb P k x).symm
  · have hy := idx2_lt0 y
    refine ⟨_, (mem_down _ _).mpr ⟨⟨(y 0).val / 16, by omega⟩, rfl⟩, ?_⟩
    show y ∈ (Rect.unit (s := S256x256) _ _ (halves_inb _)).set
    rw [Rect.mem_set_unit]
    intro a
    match a with
    | ⟨0, _⟩ => exact ⟨by show 16 * ((y 0).val / 16) ≤ (y 0).val; omega, by show (y 0).val < 16 * ((y 0).val / 16) + 16; omega⟩
    | ⟨1, _⟩ => exact ⟨Nat.zero_le _, by show (y 1).val < 0 + 256; have := idx2_lt1 y; omega⟩

theorem readCov_rows {e : EltTy} (v : View sig .tc .vmem S512x256 e) (P : Fin 16 → Vec F S32x256 e)
    (L' : List (View.Piece (Elt F) S512x256 e)) (k : Fin 16) : v.readCov (rowPieces P ++ L') (rows k).toLoadRect = P k := by
  rw [View.readCov_eq_canon']
  funext j
  rw [canon_rowPieces]
  exact glue_emb P k j

theorem readCov_whole {e : EltTy} (v : View sig .tc .vmem S512x256 e) (P : Fin 16 → Vec F S32x256 e)
    (L' : List (View.Piece (Elt F) S512x256 e)) :
    v.readCov (rowPieces P ++ L') (Rect.unit ![0, 0] S512x256.size inb_S512x256_S512x256_0_0).toLoadRect = glue P := by
  rw [View.readCov_eq_canon']
  funext j
  rw [canon_rowPieces]
  congr 1
  funext a
  match a with
  | ⟨0, _⟩ => exact Fin.ext ((Nat.zero_add _).trans (Nat.one_mul _))
  | ⟨1, _⟩ => exact Fin.ext ((Nat.zero_add _).trans (Nat.one_mul _))

theorem readCov_wholeH {e : EltTy} (v : View sig .tc .vmem S256x256 e) (P : Fin 16 → Vec F S16x256 e)
    (L' : List (View.Piece (Elt F) S256x256 e)) :
    v.readCov (halfPieces P ++ L') (Rect.unit ![0, 0] S256x256.size inb_S256x256_S256x256_0_0).toLoadRect = glueH P := by
  rw [View.readCov_eq_canon']
  funext j
  rw [canon_halfPieces]
  congr 1
  funext a
  match a with
  | ⟨0, _⟩ => exact Fin.ext ((Nat.zero_add _).trans (Nat.one_mul _))
  | ⟨1, _⟩ => exact Fin.ext ((Nat.zero_add _).trans (Nat.one_mul _))

/-! ## A tile's buffers -/

/-- A tile's exponentials, block by block. -/
def eTile (m : FVec F S1x256 .f32) (acc : FVec F S512x256 .f32) (k : Fin 16) : FVec F S32x256 .f32 :=
  k0_pay50 (smaxOf (tRaw m acc)) (tRaw m acc k)
/-- A tile's weights. -/
def wTile (m : FVec F S1x256 .f32) (acc : FVec F S512x256 .f32) : Vec F S512x256 .bf16 :=
  glue fun k => wP (totalOf (eTile m acc)) (eTile m acc k)
/-- A tile's paired codes. -/
def cTile (m : FVec F S1x256 .f32) (acc : FVec F S512x256 .f32) : Vec F S256x256 .i32 :=
  glueH fun k => cP (totalOf (eTile m acc)) (eTile m acc k)

variable (m : ℕ → FVec F S1x256 .f32) (acc : ℕ → FVec F S512x256 .f32)
  (a10 a11 : Memref sig .tc .vmem S512x256 .f32) (a12 : Memref sig .tc .vmem S512x256 .bf16) (a13 : Memref sig .tc .vmem S256x256 .i32)

theorem ld0_eq (n : ℕ) (k : Fin 16) : ld0 m acc a10 n k = tRaw (m n) (acc n) k := by
  unfold ld0 L0
  rw [readCov_rows]
  exact shapeCast_self _ _

theorem ld1_eq (n : ℕ) (k : Fin 16) : ld1 m acc a10 a11 n k = eTile (m n) (acc n) k := by
  unfold ld1 L1
  rw [readCov_rows]
  simp only [ld0_eq]
  exact shapeCast_self _ _

theorem tot_eq (n : ℕ) : tot m acc a10 n = totalOf (eTile (m n) (acc n)) := by
  unfold tot
  simp only [ld0_eq]
  rfl

theorem ldW_eq (n : ℕ) : ldW m acc a10 a11 a12 n = wTile (m n) (acc n) := by
  unfold ldW L2
  rw [readCov_whole]
  simp only [ld1_eq, tot_eq]
  rfl

theorem ldC_eq (n : ℕ) : ldC m acc a10 a11 a13 n = cTile (m n) (acc n) := by
  unfold ldC L3
  rw [readCov_wholeH]
  simp only [ld1_eq, tot_eq]
  rfl

end Cert.KernelIdeal.Tile
-- ==== Proof.Num.lean ====
/-
  The numbers: the integer exponential, the ratio and the code, in whole numbers, and what the kernel's floating-point formulas of them give
  over the extended reals.
-/
module

public import Idealize.ShloMosaic.PureOps.Ideal
public import Mathlib.Tactic.Linarith
public import Mathlib.Tactic.Ring
public import Mathlib.Tactic.NormNum
public import Mathlib.Tactic.Positivity
public import Mathlib.Algebra.Order.Floor.Semiring
public import Mathlib.Algebra.Order.Floor.Ring

@[expose] public section

namespace Cert.LogAttn

open Idealize.ShloMosaic

/-- The integer exponential of a distance `n` below the row's largest score: `2831 · 2^(-n/22)` in whole numbers,
    zero from `n = 286` on. -/
def expN (n : ℕ) : ℕ := ((43 - n % 22) ^ 2 + 982) / 2 ^ (n / 22)

/-- The code of a ratio `r`: its logarithm to base two, rounded. -/
def logN (r : ℕ) : ℕ := Nat.log2 r + if 2 ^ (2 * Nat.log2 r + 1) ≤ r * r then 1 else 0

/-- The code of one weight: `e` the exponential, `E` the row's sum. -/
def codeN (e E : ℕ) : ℕ := if e = 0 then 15 else logN (min ((2 * E + e) / (2 * e)) 32767)

theorem expN_le (n : ℕ) : expN n ≤ 2831 := by
  unfold expN
  refine (Nat.div_le_self _ _).trans ?_
  have h : 43 - n % 22 ≤ 43 := Nat.sub_le _ _
  nlinarith [Nat.pow_le_pow_left h 2]

theorem expN_zero : expN 0 = 2831 := by decide

theorem expN_far {n : ℕ} (h : 286 ≤ n) : expN n = 0 := by
  unfold expN
  rw [Nat.div_eq_of_lt]
  have h1 : 13 ≤ n / 22 := by omega
  have h2 : 2 ^ 13 ≤ 2 ^ (n / 22) := Nat.pow_le_pow_right (by norm_num) h1
  have h3 : 43 - n % 22 ≤ 43 := Nat.sub_le _ _
  have := Nat.pow_le_pow_left h3 2
  omega

/-! ### The constants -/

theorem bits_c : Ideal.ofBits .f32 0x3D3A2EBA#32 = ((12201658 / 2 ^ 28 : ℝ) : EReal) := by
  simp [Ideal.ofBits, Ideal.ieee]; rw [← EReal.coe_mul]; norm_num
theorem bits_22 : Ideal.ofBits .f32 0x41B00000#32 = ((22 : ℝ) : EReal) := by
  simp [Ideal.ofBits, Ideal.ieee]; rw [← EReal.coe_mul]; norm_num
theorem bits_86 : Ideal.ofBits .f32 0x42AC0000#32 = ((86 : ℝ) : EReal) := by
  simp [Ideal.ofBits, Ideal.ieee]; rw [← EReal.coe_mul]; norm_num
theorem bits_2831 : Ideal.ofBits .f32 0x4530F000#32 = ((2831 : ℝ) : EReal) := by
  simp [Ideal.ofBits, Ideal.ieee]; rw [← EReal.coe_mul]; norm_num
theorem bits_0 : Ideal.ofBits .f32 0x00000000#32 = ((0 : ℝ) : EReal) := by
  simp [Ideal.ofBits, Ideal.ieee]
theorem bits_1 : Ideal.ofBits .f32 0x3F800000#32 = ((1 : ℝ) : EReal) := by
  simp [Ideal.ofBits, Ideal.ieee]; rw [← EReal.coe_mul]; norm_num
theorem bits_quarter : Ideal.ofBits .f32 0x3E800000#32 = ((1 / 4 : ℝ) : EReal) := by
  simp [Ideal.ofBits, Ideal.ieee]; rw [← EReal.coe_mul]; norm_num
theorem bits_cap : Ideal.ofBits .f32 0x47000000#32 = ((32768 : ℝ) : EReal) := by
  simp [Ideal.ofBits, Ideal.ieee]; rw [← EReal.coe_mul]; norm_num
theorem bits_4 : Ideal.ofBits .f32 0x40800000#32 = ((4 : ℝ) : EReal) := by
  simp [Ideal.ofBits, Ideal.ieee]; rw [← EReal.coe_mul]; norm_num

theorem lift_coe (f : ℝ → ℤ) (r : ℝ) : Ideal.liftRound f (r : EReal) = ((f r : ℝ) : EReal) := rfl
theorem lift_top (f : ℝ → ℤ) : Ideal.liftRound f ⊤ = ⊤ := rfl

theorem floor_div_nat (a b : ℕ) : ⌊(a : ℝ) / (b : ℝ)⌋ = ((a / b : ℕ) : ℤ) := by
  rcases Nat.eq_zero_or_pos b with rfl | hb
  · simp
  have hb' : (0 : ℝ) < b := by exact_mod_cast hb
  have h1 := Nat.div_add_mod a b
  have h2 := Nat.mod_lt a hb
  have h1' : (b : ℝ) * ((a / b : ℕ) : ℝ) + ((a % b : ℕ) : ℝ) = a := by exact_mod_cast h1
  have h2' : ((a % b : ℕ) : ℝ) < b := by exact_mod_cast h2
  have h3' : (0 : ℝ) ≤ ((a % b : ℕ) : ℝ) := Nat.cast_nonneg _
  rw [Int.floor_eq_iff, le_div_iff₀ hb', div_lt_iff₀ hb']
  constructor <;> simp only [Int.cast_natCast] <;> nlinarith

/-! ### The exponential in floating point -/

/-- The exponential as the kernel writes it, of a distance `d`. -/
noncomputable def expE (d : EReal) : EReal :=
  let z := Ideal.liftRound Int.floor (d * Ideal.ofBits .f32 0x3D3A2EBA#32)
  let j := d - z * Ideal.ofBits .f32 0x41B00000#32
  Ideal.liftRound Int.floor
    ((j * (j - Ideal.ofBits .f32 0x42AC0000#32) + Ideal.ofBits .f32 0x4530F000#32)
      * Ideal.exp2 (Ideal.ofBits .f32 0x00000000#32 - z))

theorem expE_nat {n : ℕ} (hn : n ≤ 2 ^ 31) : expE ((n : ℝ) : EReal) = ((expN n : ℝ) : EReal) := by
  have hn' : (n : ℝ) ≤ 2 ^ 31 := by exact_mod_cast hn
  have hn0 : (0 : ℝ) ≤ n := Nat.cast_nonneg n
  -- the quotient, as an integer
  obtain ⟨z, hz⟩ : ∃ z : ℤ, ⌊(n : ℝ) * (12201658 / 2 ^ 28)⌋ = z := ⟨_, rfl⟩
  have hzl : (z : ℝ) ≤ (n : ℝ) * (12201658 / 2 ^ 28) := hz ▸ Int.floor_le _
  have hzu : (n : ℝ) * (12201658 / 2 ^ 28) < z + 1 := hz ▸ Int.lt_floor_add_one _
  have hz0 : 0 ≤ z := hz ▸ Int.floor_nonneg.2 (by positivity)
  obtain ⟨q, rfl⟩ := Int.eq_ofNat_of_zero_le hz0
  have hq : ((q : ℤ) : ℝ) = (q : ℝ) := by simp
  rw [hq] at hzl hzu
  have key : expE ((n : ℝ) : EReal)
      = ((⌊(((n : ℝ) - q * 22) * (((n : ℝ) - q * 22) - 86) + 2831) * ((2 : ℝ) ^ q)⁻¹⌋ : ℝ) : EReal) := by
    have e2 : Real.rpow 2 (0 - (q : ℝ)) = ((2 : ℝ) ^ q)⁻¹ := by
      show (2 : ℝ) ^ (0 - (q : ℝ)) = _
      rw [zero_sub, Real.rpow_neg (by norm_num), Real.rpow_natCast]
    unfold expE
    simp only [bits_c, bits_22, bits_86, bits_2831, bits_0, ← EReal.coe_mul, lift_coe, hz, hq, ← EReal.coe_sub,
      ← EReal.coe_add, Ideal.exp2_coe, e2]
  rw [key]
  congr 2
  -- the polynomial is positive
  have hpos : 0 < (((n : ℝ) - q * 22) * (((n : ℝ) - q * 22) - 86) + 2831) := by nlinarith [sq_nonneg (((n : ℝ) - q * 22) - 43)]
  by_cases hfar : 286 ≤ n
  · rw [expN_far hfar]
    have hfar' : (286 : ℝ) ≤ n := by exact_mod_cast hfar
    have hq13 : 13 ≤ q := by
      have : (12 : ℝ) < q := by nlinarith
      have : 12 < q := by exact_mod_cast this
      omega
    rw [Nat.cast_zero, Int.floor_eq_zero_iff]
    refine ⟨by positivity, ?_⟩
    rw [← div_eq_mul_inv, div_lt_one (by positivity)]
    by_cases hj : 22 * q ≤ n
    · have hj' : (22 : ℝ) * q ≤ n := by exact_mod_cast hj
      have hju : (n : ℝ) - q * 22 < 22 := by nlinarith
      have h13 : (2 : ℝ) ^ 13 ≤ 2 ^ q := pow_le_pow_right₀ (by norm_num) hq13
      nlinarith
    · have hj1 : n + 1 ≤ 22 * q := by omega
      have hj' : (n : ℝ) + 1 ≤ 22 * q := by exact_mod_cast hj1
      have hbig : (263172 : ℝ) ≤ n := by nlinarith
      have hq27 : 27 ≤ q := by
        have : (27 : ℝ) ≤ q := by nlinarith
        exact_mod_cast this
      have h27 : (2 : ℝ) ^ 27 ≤ 2 ^ q := pow_le_pow_right₀ (by norm_num) hq27
      have hlow : (-8161 : ℝ) ≤ (n : ℝ) - q * 22 := by nlinarith
      nlinarith
  · have hlt : n < 286 := by omega
    have hlt' : (n : ℝ) ≤ 285 := by exact_mod_cast Nat.le_of_lt_succ hlt
    have hqe : q = n / 22 := by
      have h1 : 22 * q ≤ n := by
        by_contra hc
        have : n + 1 ≤ 22 * q := by omega
        have : (n : ℝ) + 1 ≤ 22 * q := by exact_mod_cast this
        nlinarith
      have h2 : n < 22 * (q + 1) := by
        have : (n : ℝ) < 22 * (q + 1) := by nlinarith
        exact_mod_cast this
      omega
    have hj : (n : ℝ) - q * 22 = ((n % 22 : ℕ) : ℝ) := by
      have := Nat.div_add_mod n 22
      rw [← hqe] at this
      have h' : (22 : ℝ) * q + (n % 22 : ℕ) = n := by exact_mod_cast this
      linarith
    have hm : n % 22 < 22 := Nat.mod_lt _ (by norm_num)
    have hL : (((n : ℝ) - q * 22) * (((n : ℝ) - q * 22) - 86) + 2831) = (((43 - n % 22) ^ 2 + 982 : ℕ) : ℝ) := by
      rw [hj]
      push_cast [Nat.cast_sub (show n % 22 ≤ 43 by omega)]
      ring
    rw [hL, ← div_eq_mul_inv, show ((2 : ℝ) ^ q) = ((2 ^ q : ℕ) : ℝ) by push_cast; rfl]
    unfold expN
    rw [← hqe]
    rw [floor_div_nat]

/-! ### The ratio -/

/-- The ratio's rounding as the kernel writes it: the sum with a quarter added, times the reciprocal, to nearest. -/
noncomputable def ratioE (total e : EReal) : EReal :=
  min (Ideal.liftRound Ideal.roundHalfEven (total * Ideal.div (Ideal.ofBits .f32 0x3F800000#32) e))
    (Ideal.ofBits .f32 0x47000000#32)

theorem roundHalfEven_of_lt {r : ℝ} {z : ℤ} (h1 : (z : ℝ) - 1 / 2 < r) (h2 : r < z + 1 / 2) :
    Ideal.roundHalfEven r = z := by
  unfold Ideal.roundHalfEven
  by_cases hz : (z : ℝ) ≤ r
  · have hf : ⌊r⌋ = z := Int.floor_eq_iff.2 ⟨hz, by linarith⟩
    simp only [hf]
    rw [if_pos (by linarith)]
  · have hf : ⌊r⌋ = z - 1 := Int.floor_eq_iff.2 ⟨by push_cast; linarith, by push_cast; linarith⟩
    simp only [hf]
    push_cast
    rw [if_neg (by linarith), if_pos (by linarith)]
    ring

theorem ratioE_zero {E : ℕ} : ratioE (((E : ℝ) + 1 / 4 : ℝ) : EReal) ((0 : ℕ) : ℝ) = ((32768 : ℕ) : ℝ) := by
  have h : (0 : EReal) < (((E : ℝ) + 1 / 4 : ℝ) : EReal) := by
    rw [← EReal.coe_zero, EReal.coe_lt_coe_iff]; positivity
  have h1 : (0 : EReal) < ((1 : ℝ) : EReal) := by norm_num
  unfold ratioE
  simp only [bits_1, bits_cap, Nat.cast_zero, EReal.coe_zero, Ideal.div, if_true, h1]
  rw [EReal.mul_top_of_pos h]
  rw [lift_top, min_eq_right le_top]
  norm_num

theorem ratioE_pos {E e : ℕ} (he : e ≠ 0) :
    ratioE (((E : ℝ) + 1 / 4 : ℝ) : EReal) (e : ℝ) = ((min ((2 * E + e) / (2 * e)) 32768 : ℕ) : ℝ) := by
  have he0 : (0 : ℝ) < e := by exact_mod_cast Nat.pos_of_ne_zero he
  have hne : ((e : ℝ) : EReal) ≠ 0 := by
    rw [← EReal.coe_zero, Ne, EReal.coe_eq_coe_iff]; exact he0.ne'
  unfold ratioE
  rw [bits_1, bits_cap, Ideal.div, if_neg hne, ← EReal.coe_inv, ← EReal.coe_mul, ← EReal.coe_mul]
  set q := (2 * E + e) / (2 * e) with hq
  have hm := Nat.div_add_mod (2 * E + e) (2 * e)
  have hr := Nat.mod_lt (2 * E + e) (show 0 < 2 * e by omega)
  rw [← hq] at hm
  have hR : Ideal.roundHalfEven (((E : ℝ) + 1 / 4) * (1 * (e : ℝ)⁻¹)) = (q : ℤ) := by
    apply roundHalfEven_of_lt
    · rw [one_mul, ← div_eq_mul_inv, lt_div_iff₀ he0]
      have : 2 * e * q ≤ 2 * E + e := by omega
      have : (2 : ℝ) * e * q ≤ 2 * E + e := by exact_mod_cast this
      push_cast
      nlinarith
    · rw [one_mul, ← div_eq_mul_inv, div_lt_iff₀ he0]
      have : 2 * E + e + 1 ≤ 2 * e * q + 2 * e := by omega
      have : (2 : ℝ) * E + e + 1 ≤ 2 * e * q + 2 * e := by exact_mod_cast this
      push_cast
      nlinarith
  rw [lift_coe, hR, Nat.cast_min, EReal.coe_strictMono.monotone.map_min]
  push_cast
  rfl

end Cert.LogAttn
-- ==== Proof.Code.lean ====
/-
  The word arithmetic of the codes. The kernel puts a ratio `n` in the form of an f32 word, adds a bias, rounds to sixteen bits, inverts and
  keeps the exponent field: the field is 127 less the code of `n`. One table over the 32768 ratios.
-/
module

public import proofs.«01_k».proof.Proof.Num

@[expose] public section

set_option maxRecDepth 16384

namespace Cert.LogAttn

open Idealize.ShloMosaic

def biasWord (n : BitVec 32) : BitVec 32 :=
  let k := IntOp.subi 31#32 (IntOp.ctlz n)
  IntOp.addi (IntOp.addi (IntOp.shli .vector (IntOp.addi 127#32 k) 23#32)
    (IntOp.shli .vector (IntOp.subi n (IntOp.shli .vector 1#32 k)) (IntOp.subi 23#32 k))) 13269772#32
def halfWord (b : BitVec 32) : BitVec 16 :=
  (IntOp.shrui .vector (IntOp.addi (IntOp.addi b 32767#32) (IntOp.andi (IntOp.shrui .vector b 16#32) 1#32)) 16#32).setWidth 16

set_option maxHeartbeats 4000000 in
theorem halfWord_table : ∀ a < 256, ∀ b < 128,
    ~~~ (halfWord (biasWord (BitVec.ofNat 32 (a * 128 + b + 1)))) &&& 0x7F80#16
      = BitVec.ofNat 16 ((127 - logN (min (a * 128 + b + 1) 32767)) * 128) := by
  decide +kernel
end Cert.LogAttn
-- ==== Proof.RefLog.lean ====
/-
  The reference's logarithm, in words: the position of the leading bit, and one more where the square reaches the next odd power of two. One
  table over the ratios.
-/
module

public import proofs.«01_k».proof.Proof.Num

@[expose] public section

set_option maxRecDepth 16384

namespace Cert.LogAttn

open Idealize.ShloMosaic

/-- The reference's logarithm of a ratio, to the nearest whole number. -/
def refLog (rc : BitVec 32) : BitVec 32 :=
  let k := IntOp.subi 31#32 (IntOp.ctlz rc)
  IntOp.addi k ((IntOp.cmpi .sge (IntOp.muli rc rc) (IntOp.shli .host 1#32 (IntOp.addi (IntOp.muli 2#32 k) 1#32))).setWidth 32)

set_option maxHeartbeats 4000000 in
theorem log_table : ∀ a < 256, ∀ b < 128,
    refLog (BitVec.ofNat 32 (min (a * 128 + b + 1) 32767)) = BitVec.ofNat 32 (logN (min (a * 128 + b + 1) 32767)) := by
  decide +kernel

end Cert.LogAttn
-- ==== Proof.RefCode.lean ====
/-
  The reference's integer arithmetic: its exponential, its ratio with the two corrections, its logarithm and its packed words, as plain
  functions of words, and their values.
-/
module

public import proofs.«01_k».proof.Proof.RefLog

@[expose] public section

set_option maxRecDepth 16384

noncomputable section

namespace Cert.LogAttn

open Idealize.ShloMosaic

/-! ### Conversions -/

theorem toClamp_int {lo hi z : ℤ} (h1 : lo ≤ z) (h2 : z ≤ hi) : Ideal.toIntClamped lo hi ((z : ℝ) : EReal) = z := by
  rw [Ideal.toIntClamped_coe, Int.floor_intCast, Int.ceil_intCast, ite_self, min_eq_right h2, max_eq_right h1]

theorem fptosi32_int {z : ℤ} (h1 : -2147483648 ≤ z) (h2 : z ≤ 2147483647) : Ideal.fptosi 32 ((z : ℝ) : EReal) = BitVec.ofInt 32 z := by
  unfold Ideal.fptosi
  rw [toClamp_int (by norm_num; exact h1) (by norm_num; exact h2)]

theorem fptosi8_int {z : ℤ} (h1 : -128 ≤ z) (h2 : z ≤ 127) : Ideal.fptosi 8 ((z : ℝ) : EReal) = BitVec.ofInt 8 z := by
  unfold Ideal.fptosi
  rw [toClamp_int (by norm_num; exact h1) (by norm_num; exact h2)]

theorem fptosi32_nat {n : ℕ} (h : n ≤ 2147483647) : Ideal.fptosi 32 ((n : ℝ) : EReal) = BitVec.ofNat 32 n := by
  have := @fptosi32_int (n : ℤ) (by omega) (by omega)
  simpa using this

theorem toInt_ofNat {n : ℕ} (h : n < 2147483648) : (BitVec.ofNat 32 n).toInt = (n : ℤ) := by
  rw [BitVec.toInt_ofNat', Int.bmod_def]; omega

theorem toInt_ofInt {z : ℤ} (h1 : -2147483648 ≤ z) (h2 : z ≤ 2147483647) : (BitVec.ofInt 32 z).toInt = z := by
  rw [BitVec.toInt_ofInt, Int.bmod_def]; omega

/-- An integer word as a real. -/
def realOf (x : BitVec 32) : EReal := ((x.toInt : ℝ) : EReal)

theorem realOf_nat {n : ℕ} (h : n < 2147483648) : realOf (BitVec.ofNat 32 n) = ((n : ℝ) : EReal) := by
  unfold realOf; rw [toInt_ofNat h]; simp

theorem minsi_nat {a b : ℕ} (ha : a < 2147483648) (hb : b < 2147483648) :
    IntOp.minsi (BitVec.ofNat 32 a) (BitVec.ofNat 32 b) = BitVec.ofNat 32 (min a b) := by
  unfold IntOp.minsi
  rw [BitVec.slt_eq_decide, toInt_ofNat ha, toInt_ofNat hb]
  by_cases h : a < b
  · rw [if_pos (by simpa using h), min_eq_left h.le]
  · rw [if_neg (by simpa using h), min_eq_right (not_lt.1 h)]

theorem maxsi_nat {a b : ℕ} (ha : a < 2147483648) (hb : b < 2147483648) :
    IntOp.maxsi (BitVec.ofNat 32 a) (BitVec.ofNat 32 b) = BitVec.ofNat 32 (max a b) := by
  unfold IntOp.maxsi
  rw [BitVec.slt_eq_decide, toInt_ofNat ha, toInt_ofNat hb]
  by_cases h : b < a
  · rw [if_pos (by simpa using h), max_eq_left h.le]
  · rw [if_neg (by simpa using h), max_eq_right (not_lt.1 h)]

theorem addi_nat (a b : ℕ) : IntOp.addi (BitVec.ofNat 32 a) (BitVec.ofNat 32 b) = BitVec.ofNat 32 (a + b) :=
  (BitVec.ofNat_add a b).symm
theorem muli_nat (a b : ℕ) : IntOp.muli (BitVec.ofNat 32 a) (BitVec.ofNat 32 b) = BitVec.ofNat 32 (a * b) :=
  (BitVec.ofNat_mul a b).symm

/-! ### The exponential -/

theorem bits_c0 : Ideal.ofBits .f32 0x3D3A2E8C#32 = ((12201612 / 2 ^ 28 : ℝ) : EReal) := by
  simp [Ideal.ofBits, Ideal.ieee]; rw [← EReal.coe_mul]; norm_num
theorem bits_half : Ideal.ofBits .f32 0x3F000000#32 = ((1 / 2 : ℝ) : EReal) := by
  simp [Ideal.ofBits, Ideal.ieee]; rw [← EReal.coe_mul]; norm_num

/-- The quotient by 22. -/
def refZ (nd : BitVec 32) : BitVec 32 :=
  Ideal.fptosi 32 (Ideal.liftRound Int.floor ((realOf nd + Ideal.ofBits .f32 0x3F000000#32) * Ideal.ofBits .f32 0x3D3A2E8C#32))

theorem quot_table : ∀ n < 287, (2 * n + 1) * 12201612 / 2 ^ 29 = n / 22 := by decide +kernel

theorem refZ_nat {n : ℕ} (h : n < 287) : refZ (BitVec.ofNat 32 n) = BitVec.ofNat 32 (n / 22) := by
  unfold refZ
  rw [realOf_nat (by omega), bits_half, bits_c0, ← EReal.coe_add, ← EReal.coe_mul, lift_coe]
  have e : ((n : ℝ) + 1 / 2) * (12201612 / 2 ^ 28) = (((2 * n + 1) * 12201612 : ℕ) : ℝ) / ((2 ^ 29 : ℕ) : ℝ) := by
    push_cast; ring
  rw [e, floor_div_nat, quot_table n h]
  rw [Int.cast_natCast]
  exact fptosi32_nat (by omega)

/-- The exponential from the quotient and the distance. -/
def refExp (z nd : BitVec 32) : BitVec 32 :=
  let q := IntOp.addi (IntOp.subi (IntOp.muli z 22#32) nd) 43#32
  IntOp.shrsi .host (IntOp.addi (IntOp.muli q q) 982#32) (IntOp.minsi z 12#32)

theorem exp_table : ∀ n < 287, refExp (BitVec.ofNat 32 (n / 22)) (BitVec.ofNat 32 n) = BitVec.ofNat 32 (expN n) := by decide +kernel

/-- The exponential of a distance `n`. -/
theorem refExp_nat {n : ℕ} (h : n < 2147483648) :
    refExp (refZ (IntOp.minsi (BitVec.ofNat 32 n) 286#32)) (IntOp.minsi (BitVec.ofNat 32 n) 286#32) = BitVec.ofNat 32 (expN n) := by
  have h1 : IntOp.minsi (BitVec.ofNat 32 n) 286#32 = BitVec.ofNat 32 (min n 286) := minsi_nat h (by norm_num)
  have h2 : min n 286 < 287 := by omega
  rw [h1, refZ_nat h2, exp_table _ h2]
  by_cases hn : n ≤ 286
  · rw [min_eq_left hn]
  · rw [min_eq_right (by omega), expN_far (le_refl _), expN_far (by omega)]

/-! ### The ratio -/

/-- The quotient in floating point, clipped. -/
def refQuot (num den : BitVec 32) : BitVec 32 :=
  Ideal.fptosi 32 (min (Ideal.ofBits .f32 0x47000000#32) (max (Ideal.ofBits .f32 0x00000000#32)
    (Ideal.liftRound Int.floor (Ideal.div (realOf num) (realOf den)))))

theorem refQuot_nat {a b : ℕ} (ha : a < 2147483648) (hb : b < 2147483648) (hb0 : b ≠ 0) :
    refQuot (BitVec.ofNat 32 a) (BitVec.ofNat 32 b) = BitVec.ofNat 32 (min (a / b) 32768) := by
  unfold refQuot
  have hb1 : (b : ℝ) ≠ 0 := by exact_mod_cast hb0
  rw [realOf_nat ha, realOf_nat hb, Ideal.div_coe hb1, ← EReal.coe_mul, lift_coe, mul_one_div, floor_div_nat, bits_cap, bits_0]
  rw [← EReal.coe_strictMono.monotone.map_max, ← EReal.coe_strictMono.monotone.map_min]
  have e : min (32768 : ℝ) (max 0 (((a / b : ℕ) : ℤ) : ℝ)) = ((min (a / b) 32768 : ℕ) : ℝ) := by
    rw [Int.cast_natCast, min_comm, max_eq_right (Nat.cast_nonneg _), Nat.cast_min, Nat.cast_ofNat]
  rw [e]
  exact fptosi32_nat (by omega)

/-- The two corrections, and the cap. -/
def refFix (q num den : BitVec 32) : BitVec 32 :=
  let r := IntOp.subi q ((IntOp.cmpi .sgt (IntOp.muli q den) num).setWidth 32)
  IntOp.minsi (IntOp.addi r ((IntOp.cmpi .sle (IntOp.muli (IntOp.addi r 1#32) den) num).setWidth 32)) 32767#32

theorem refFix_nat {a b : ℕ} (ha : a < 1073741824) (hb : b < 1073741824) (hb0 : b ≠ 0) :
    refFix (BitVec.ofNat 32 (min (a / b) 32768)) (BitVec.ofNat 32 a) (BitVec.ofNat 32 b)
      = BitVec.ofNat 32 (min (a / b) 32767) := by
  set q := min (a / b) 32768 with hq
  have hqb : q * b ≤ a := (Nat.mul_le_mul_right b (min_le_left _ _)).trans (Nat.div_mul_le_self a b)
  have hqb' : (q + 1) * b ≤ a + b := by rw [Nat.add_mul, one_mul]; omega
  have hq1 : q ≤ 32768 := min_le_right _ _
  unfold refFix
  have e1 : IntOp.cmpi .sgt (IntOp.muli (BitVec.ofNat 32 q) (BitVec.ofNat 32 b)) (BitVec.ofNat 32 a) = 0#1 := by
    rw [muli_nat]
    show BitVec.ofBool ((BitVec.ofNat 32 a).slt (BitVec.ofNat 32 (q * b))) = _
    rw [BitVec.slt_eq_decide, toInt_ofNat (by omega), toInt_ofNat (by omega), decide_eq_false (by exact_mod_cast not_lt.2 hqb)]
    rfl
  have e0 : IntOp.subi (BitVec.ofNat 32 q) ((0#1 : BitVec 1).setWidth 32) = BitVec.ofNat 32 q := by
    show BitVec.ofNat 32 q - _ = _
    simp
  simp only [e1, e0]
  rw [show (1#32 : BitVec 32) = BitVec.ofNat 32 1 from rfl, addi_nat, muli_nat]
  have e2 : IntOp.cmpi .sle (BitVec.ofNat 32 ((q + 1) * b)) (BitVec.ofNat 32 a) = BitVec.ofBool (decide ((q + 1) * b ≤ a)) := by
    show BitVec.ofBool ((BitVec.ofNat 32 ((q + 1) * b)).sle (BitVec.ofNat 32 a)) = _
    rw [BitVec.sle_eq_decide, toInt_ofNat (by omega), toInt_ofNat (by omega)]
    congr 1
    exact decide_eq_decide.2 (by exact_mod_cast Iff.rfl)
  rw [e2]
  by_cases hc : (q + 1) * b ≤ a
  · have hq2 : q + 1 ≤ a / b := (Nat.le_div_iff_mul_le (Nat.pos_of_ne_zero hb0)).2 hc
    have hq3 : q = 32768 := by omega
    rw [decide_eq_true hc, show ((BitVec.ofBool true).setWidth 32) = BitVec.ofNat 32 1 from rfl, addi_nat,
      show (32767#32 : BitVec 32) = BitVec.ofNat 32 32767 from rfl, minsi_nat (by omega) (by omega)]
    congr 1
    omega
  · rw [decide_eq_false hc, show ((BitVec.ofBool false).setWidth 32) = BitVec.ofNat 32 0 from rfl, addi_nat,
      show (32767#32 : BitVec 32) = BitVec.ofNat 32 32767 from rfl, minsi_nat (by omega) (by omega)]
    congr 1
    omega

/-! ### The logarithm -/

theorem refLog_nat {r : ℕ} (h0 : 1 ≤ r) (h : r ≤ 32767) : refLog (BitVec.ofNat 32 r) = BitVec.ofNat 32 (logN r) := by
  have := log_table ((r - 1) / 128) (by omega) ((r - 1) % 128) (Nat.mod_lt _ (by norm_num))
  rwa [show min ((r - 1) / 128 * 128 + (r - 1) % 128 + 1) 32767 = r by omega] at this

/-! ### The code -/

/-- The code of a weight, from its exponential `e` and the row's sum `E`. -/
def refCode (e E : BitVec 32) : BitVec 32 :=
  let num := IntOp.addi (IntOp.muli 2#32 E) e
  let den := IntOp.muli 2#32 (IntOp.maxsi e 1#32)
  Scalar.select (IntOp.cmpi .eq e 0#32) 15#32 (refLog (refFix (refQuot num den) num den))

theorem refCode_nat {e E : ℕ} (he : e ≤ E) (hE : E ≤ 1449472) : refCode (BitVec.ofNat 32 e) (BitVec.ofNat 32 E) = BitVec.ofNat 32 (codeN e E) := by
  unfold refCode codeN
  by_cases h0 : e = 0
  · subst h0
    rw [if_pos rfl]
    rfl
  rw [if_neg h0]
  have hs : IntOp.cmpi .eq (BitVec.ofNat 32 e) 0#32 = 0#1 := by
    show BitVec.ofBool (BitVec.ofNat 32 e == 0#32) = _
    have : (BitVec.ofNat 32 e == 0#32) = false := by
      rw [beq_eq_false_iff_ne]
      intro hh
      have := congrArg BitVec.toInt hh
      rw [toInt_ofNat (by omega), show (0#32 : BitVec 32).toInt = 0 from rfl] at this
      exact h0 (by exact_mod_cast this)
    rw [this]; rfl
  simp only [hs]
  have hm : IntOp.maxsi (BitVec.ofNat 32 e) 1#32 = BitVec.ofNat 32 e := by
    have := @maxsi_nat e 1 (by omega) (by omega)
    rw [max_eq_left (by omega)] at this
    exact this
  rw [hm, show (2#32 : BitVec 32) = BitVec.ofNat 32 2 from rfl, muli_nat, muli_nat, addi_nat]
  rw [refQuot_nat (by omega) (by omega) (by omega), refFix_nat (by omega) (by omega) (by omega)]
  have h1 : 1 ≤ (2 * E + e) / (2 * e) := (Nat.le_div_iff_mul_le (by omega)).2 (by omega)
  rw [refLog_nat (by omega) (by omega)]
  rfl

end Cert.LogAttn
-- ==== Proof.Spec.lean ====
/-
  What one row of the attention is, in whole numbers: from 512 real scores, the rounded scores, their maximum, the integer exponentials,
  their sum and the codes. The kernel and the reference are both shown to compute these.
-/
module

public import proofs.«01_k».proof.Proof.Code
public import proofs.«01_k».proof.Proof.RefCode

@[expose] public section

set_option maxRecDepth 16384

noncomputable section

namespace Cert.LogAttn

open Idealize.ShloMosaic

/-! ### Rounding -/

theorem rhe_floor (r : ℝ) : ⌊r⌋ ≤ Ideal.roundHalfEven r ∧ Ideal.roundHalfEven r ≤ ⌊r⌋ + 1 := by
  unfold Ideal.roundHalfEven
  dsimp only
  split_ifs <;> constructor <;> omega

theorem rhe_mono {r s : ℝ} (h : r ≤ s) : Ideal.roundHalfEven r ≤ Ideal.roundHalfEven s := by
  rcases (Int.floor_mono h).lt_or_eq with hl | he
  · have := (rhe_floor r).2
    have := (rhe_floor s).1
    omega
  · unfold Ideal.roundHalfEven
    dsimp only
    rw [he]
    split_ifs <;> first | omega | (exfalso; linarith) | skip

theorem rhe_abs {r : ℝ} {N : ℤ} (h : |r| ≤ N) : -N ≤ Ideal.roundHalfEven r ∧ Ideal.roundHalfEven r ≤ N + 1 := by
  have h1 := abs_le.1 h
  have hf := rhe_floor r
  have a1 : -N ≤ ⌊r⌋ := Int.le_floor.2 (by push_cast; linarith)
  have a2 : ⌊r⌋ ≤ N := by
    have := Int.floor_le r
    have : ((⌊r⌋ : ℤ) : ℝ) ≤ N := by linarith
    exact_mod_cast this
  omega

/-! ### A row -/

variable (t : Fin 512 → ℝ)

/-- The rounded score. -/
def nI (j : Fin 512) : ℤ := Ideal.roundHalfEven (t j)
/-- The row's largest rounded score. -/
def mxI : ℤ := (Finset.univ : Finset (Fin 512)).sup' ⟨0, Finset.mem_univ _⟩ (nI t)
/-- How far a score lies below the largest. -/
def distN (j : Fin 512) : ℕ := (mxI t - nI t j).toNat
def eN (j : Fin 512) : ℕ := expN (distN t j)
def sumN : ℕ := ∑ j, eN t j
/-- The code of weight `j` of the row. -/
def codeOf (j : Fin 512) : ℕ := codeN (eN t j) (sumN t)

/-- The scores stay inside what 32-bit integers hold. -/
def Fits : Prop := ∀ j, |t j| ≤ 1069547520

theorem nI_le (j : Fin 512) : nI t j ≤ mxI t := Finset.le_sup' (nI t) (Finset.mem_univ j)

theorem mx_attained : ∃ j, mxI t = nI t j := by
  obtain ⟨j, _, h⟩ := Finset.exists_mem_eq_sup' (⟨0, Finset.mem_univ _⟩ : (Finset.univ : Finset (Fin 512)).Nonempty) (nI t)
  exact ⟨j, h⟩

/-- Rounding the largest score gives the largest rounded score. -/
theorem round_max {X : ℝ} (h : ∀ j, t j ≤ X) (h0 : ∃ j, X = t j) : Ideal.roundHalfEven X = mxI t := by
  obtain ⟨j0, rfl⟩ := h0
  refine le_antisymm (nI_le t j0) ?_
  obtain ⟨j, hj⟩ := mx_attained t
  rw [hj]
  exact rhe_mono (h j)

theorem distN_cast (j : Fin 512) : ((distN t j : ℕ) : ℤ) = mxI t - nI t j :=
  Int.toNat_of_nonneg (by have := nI_le t j; omega)

theorem eN_le (j : Fin 512) : eN t j ≤ 2831 := expN_le _

theorem eN_le_sum (j : Fin 512) : eN t j ≤ sumN t := Finset.single_le_sum (fun _ _ => Nat.zero_le _) (Finset.mem_univ j)

theorem sumN_le : sumN t ≤ 1449472 := by
  have : sumN t ≤ ∑ _j : Fin 512, 2831 := Finset.sum_le_sum fun j _ => eN_le t j
  simpa using this

variable {t}

theorem nI_bound (h : Fits t) (j : Fin 512) : -1069547520 ≤ nI t j ∧ nI t j ≤ 1069547521 := by
  have := @rhe_abs (t j) 1069547520 (by have := h j; push_cast; exact this)
  exact this

theorem mx_bound (h : Fits t) : -1069547520 ≤ mxI t ∧ mxI t ≤ 1069547521 := by
  obtain ⟨j, hj⟩ := mx_attained t
  rw [hj]
  exact nI_bound h j

theorem distN_le (h : Fits t) (j : Fin 512) : distN t j ≤ 2139095041 := by
  have h1 := nI_bound h j
  have h2 := mx_bound h
  have := distN_cast t j
  omega

theorem logN_le {r : ℕ} (h : r ≤ 32767) : logN r ≤ 15 := by
  unfold logN
  have h1 : Nat.log2 r ≤ 14 := by
    rcases Nat.eq_zero_or_pos r with rfl | hr
    · decide
    · have : Nat.log2 r < 15 := (Nat.log2_lt (by omega)).2 (by omega)
      omega
  split <;> omega

theorem codeN_le (e E : ℕ) : codeN e E ≤ 15 := by
  unfold codeN
  split
  · exact le_refl _
  · exact logN_le (min_le_right _ _)

theorem codeOf_le (j : Fin 512) : codeOf t j ≤ 15 := codeN_le _ _

/-! ### Both sides' codes -/

/-- The ratio as the kernel has it, capped. -/
def ratioN (e E : ℕ) : ℕ := if e = 0 then 32768 else min ((2 * E + e) / (2 * e)) 32768

theorem ratioE_nat (e E : ℕ) : ratioE (((E : ℝ) + 1 / 4 : ℝ) : EReal) ((e : ℝ) : EReal) = ((ratioN e E : ℝ) : EReal) := by
  unfold ratioN
  by_cases h : e = 0
  · subst h; rw [if_pos rfl]; exact ratioE_zero
  · rw [if_neg h]; exact ratioE_pos h

theorem ratioN_le (e E : ℕ) : ratioN e E ≤ 32768 := by
  unfold ratioN; split
  · exact le_refl _
  · exact min_le_right _ _

theorem logN_cap : logN 32767 = 15 := by decide

/-- The kernel's sixteen-bit word of a ratio. -/
theorem half_ratio {e E : ℕ} (he : e ≤ E) :
    ~~~ (halfWord (biasWord (BitVec.ofNat 32 (ratioN e E)))) &&& 0x7F80#16 = BitVec.ofNat 16 ((127 - codeN e E) * 128) := by
  have h1 : 1 ≤ ratioN e E := by
    unfold ratioN; split
    · norm_num
    · have : 1 ≤ (2 * E + e) / (2 * e) := (Nat.le_div_iff_mul_le (by omega)).2 (by omega)
      omega
  have h2 := ratioN_le e E
  have := halfWord_table ((ratioN e E - 1) / 128) (by omega) ((ratioN e E - 1) % 128) (Nat.mod_lt _ (by norm_num))
  rw [show (ratioN e E - 1) / 128 * 128 + (ratioN e E - 1) % 128 + 1 = ratioN e E by omega] at this
  rw [this]
  have : logN (min (ratioN e E) 32767) = codeN e E := by
    unfold ratioN codeN
    split
    · exact logN_cap
    · congr 1; omega
  rw [this]

/-- A weight: two to the minus its code. -/
def wt (c : ℕ) : EReal := Ideal.ofBits .f32 (BitVec.ofNat 32 ((127 - c) * 8388608))

theorem wt_half : ∀ c ≤ 15, Ideal.ofBits .bf16 (BitVec.ofNat 16 ((127 - c) * 128)) = wt c := by
  intro c hc
  unfold wt
  interval_cases c <;> simp [Ideal.ofBits, Ideal.ieee] <;> rw [← EReal.coe_mul, ← EReal.coe_mul] <;> norm_num

theorem wt_word : ∀ c ≤ 15, IntOp.shli .host (IntOp.subi 127#32 (BitVec.ofNat 32 c)) 23#32 = BitVec.ofNat 32 ((127 - c) * 8388608) := by
  decide

/-- The byte of two codes. -/
def byteN (c d : ℕ) : BitVec 8 := BitVec.ofNat 8 (c + 16 * d)

theorem ref_byte : ∀ c ≤ 15, ∀ d ≤ 15,
    (IntOp.ori (BitVec.ofNat 32 c) (IntOp.shli .host (BitVec.ofNat 32 d) 4#32)).setWidth 8 = byteN c d := by
  decide

/-- The kernel's byte: the low byte of the folded pair word, with four bits inverted. -/
theorem ker_byte : ∀ c ≤ 15, ∀ d ≤ 15,
    let w : BitVec 32 := BitVec.ofNat 16 ((127 - d) * 128) ++ BitVec.ofNat 16 ((127 - c) * 128)
    (IntOp.xori (IntOp.shrui .vector w 7#32) (IntOp.shrui .vector w 19#32)).setWidth 8 ^^^ 0x8F#8 = byteN c d := by
  decide +kernel

end Cert.LogAttn
-- ==== Proof.TileVal.lean ====
/-
  What one tile computes over the extended reals. A column of the tile's scores is 512 reals; its exponentials, sum, codes, weights and bytes
  are those of the row in Spec.
-/
module

public import proofs.«01_k».proof.Proof.ReadBack
public import proofs.«01_k».proof.Proof.Spec
public import Idealize.ShloMosaic.PureOps.Ideal.Laws
public import Idealize.ShloMosaic.Lib.Pipeline.Value
public import Idealize.ShloMosaic.Lib.BitcastPair
public import Idealize.ShloMosaic.Lib.BitcastFour

@[expose] public section

set_option synthInstance.maxSize 4096

noncomputable section

namespace Cert.KernelIdeal.Tile

open Idealize.ShloMosaic Idealize.ShloMosaic.ValueIdx Idealize.SL.Sem Cert.KernelIdeal.Gen Cert.LogAttn

/-- Row `r` of block `k`, among the 512 rows. -/
def rowIx (k : Fin 16) (r : Fin 32) : Fin 512 := ⟨32 * k.1 + r.1, by omega⟩
/-- Row `a` of eight-row group `s`. -/
def subIx (a : Fin 4) (s : Fin 8) : Fin 32 := ⟨8 * a.1 + s.1, by omega⟩

theorem rowIx_all (j : Fin 512) : ∃ k s a, rowIx k (subIx a s) = j := by
  refine ⟨⟨j.1 / 32, by omega⟩, ⟨j.1 % 8, by omega⟩, ⟨j.1 % 32 / 8, by omega⟩, Fin.ext ?_⟩
  show 32 * (j.1 / 32) + (8 * (j.1 % 32 / 8) + j.1 % 8) = j.1
  omega

theorem cast_groups {α : Type} (x : S32x256.Idx → α) (a : Fin 4) (s : Fin 8) (c : Fin 256) :
    shapeCast S4x8x256 x shapeCasts_S32x256_S4x8x256 (ix3 a s c) = x (ix2 (subIx a s) c) := by
  apply shapeCast_apply
  rw [Shape.rowMajor_val_two, Shape.rowMajor_val_three]
  show (8 * a.1 + s.1) * 256 + c.1 = (a.1 * 8 + s.1) * 256 + c.1
  ring

theorem cast_row {α : Type} (x : S256.Idx → α) (c : Fin 256) :
    shapeCast S1x256 x shapeCasts_S256_S1x256 (ix2 0 c) = x (ix1 c) := by
  apply shapeCast_apply
  rw [Shape.rowMajor_val_one, Shape.rowMajor_val_two]
  show c.1 = 0 * 256 + c.1
  omega

theorem spread_row {α : Type} (x : S1x256.Idx → α) (r : Fin 32) (c : Fin 256) :
    broadcastTo S32x256 x broadcasts_S1x256_S32x256 (ix2 r c) = x (ix2 0 c) := by
  apply broadcastTo_apply
  intro a
  match a with
  | ⟨0, _⟩ => rfl
  | ⟨1, _⟩ => rfl

theorem lift_groups (a : Fin 4) (s : Fin 8) (c : Fin 256) :
    (reduces_S4x8x256_S8x256).lift (ix2 s c) a = ix3 a s c := by
  funext d
  match d with
  | ⟨0, _⟩ => exact Fin.ext rfl
  | ⟨1, _⟩ => exact Fin.ext rfl
  | ⟨2, _⟩ => exact Fin.ext rfl

theorem lift_last (s : Fin 8) (c : Fin 256) : (reduces_S8x256_S256).lift (ix1 c) s = ix2 s c := by
  funext d
  match d with
  | ⟨0, _⟩ => exact Fin.ext rfl
  | ⟨1, _⟩ => exact Fin.ext rfl

theorem bits_neg_inf : Ideal.ofBits .f32 0xFF800000#32 = ⊥ := by
  simp [Ideal.ofBits, Ideal.ieee]

/-! ## The largest score -/

theorem blkMax_le (x : FVec Ideal S32x256 .f32) (s : Fin 8) (c : Fin 256) (y : EReal) :
    blkMax x (ix2 s c) ≤ y ↔ ∀ a : Fin 4, x (ix2 (subIx a s) c) ≤ y := by
  have e : blkMax x (ix2 s c) = (Finset.univ : Finset (Fin 4)).fold max (Ideal.ofBits .f32 0xFF800000#32)
      (fun a => x (ix2 (subIx a s) c)) := by
    refine (Ideal.multiReduction_maximumf_single _ _ reduces_S4x8x256_S8x256 (.inl rfl) rfl (ix2 s c)).trans ?_
    refine Finset.fold_congr fun a _ => ?_
    exact (congrArg (shapeCast S4x8x256 x shapeCasts_S32x256_S4x8x256) (lift_groups a s c)).trans (cast_groups x a s c)
  rw [e, Finset.fold_max_le, bits_neg_inf]
  simp

theorem accMax_le (P : Fin 16 → FVec Ideal S32x256 .f32) (n : ℕ) (s : Fin 8) (c : Fin 256) (y : EReal) :
    accMax P n (ix2 s c) ≤ y ↔ ∀ k ≤ n, ∀ a : Fin 4, P (Fin.ofNat 16 k) (ix2 (subIx a s) c) ≤ y := by
  induction n with
  | zero =>
    show blkMax (P 0) (ix2 s c) ≤ y ↔ _
    rw [blkMax_le]
    constructor
    · intro h k hk; obtain rfl : k = 0 := by omega
      exact h
    · intro h; exact h 0 (le_refl _)
  | succ n ih =>
    show max (accMax P n (ix2 s c)) (blkMax (P (Fin.ofNat 16 (n + 1))) (ix2 s c)) ≤ y ↔ _
    rw [max_le_iff, ih, blkMax_le]
    constructor
    · rintro ⟨h1, h2⟩ k hk
      rcases Nat.lt_or_ge n k with h | h
      · obtain rfl : k = n + 1 := by omega
        exact h2
      · exact h1 k h
    · intro h
      exact ⟨fun k hk => h k (by omega), h (n + 1) (le_refl _)⟩

theorem smaxOf_eq (P : Fin 16 → FVec Ideal S32x256 .f32) (t : Fin 512 → ℝ) (c : Fin 256)
    (hP : ∀ k r, P k (ix2 r c) = ((t (rowIx k r) : ℝ) : EReal)) : smaxOf P (ix2 0 c) = ((mxI t : ℝ) : EReal) := by
  have e : ∀ y : EReal, (multiReduction .maximumf [0] S256 (accMax P 15) 0xFF800000#32 reduces_S8x256_S256 (.inl rfl) rfl
      : FVec Ideal S256 .f32) (ix1 c) ≤ y ↔ ∀ j, ((t j : ℝ) : EReal) ≤ y := by
    intro y
    have e1 : (multiReduction .maximumf [0] S256 (accMax P 15) 0xFF800000#32 reduces_S8x256_S256 (.inl rfl) rfl
        : FVec Ideal S256 .f32) (ix1 c) = (Finset.univ : Finset (Fin 8)).fold max (Ideal.ofBits .f32 0xFF800000#32)
        (fun s => accMax P 15 (ix2 s c)) := by
      refine (Ideal.multiReduction_maximumf_single _ _ reduces_S8x256_S256 (.inl rfl) rfl (ix1 c)).trans ?_
      refine Finset.fold_congr fun s _ => ?_
      exact congrArg (accMax P 15) (lift_last s c)
    rw [e1, Finset.fold_max_le, bits_neg_inf]
    constructor
    · rintro ⟨_, h⟩ j
      obtain ⟨k, s, a, rfl⟩ := rowIx_all j
      have := (accMax_le P 15 s c y).1 (h s (Finset.mem_univ _)) k.1 (by omega) a
      rw [show Fin.ofNat 16 k.1 = k from Fin.ext (Nat.mod_eq_of_lt k.isLt), hP] at this
      exact this
    · intro h
      refine ⟨bot_le, fun s _ => (accMax_le P 15 s c y).2 fun k _ a => ?_⟩
      rw [hP]
      exact h _
  obtain ⟨j0, _, hj0⟩ := Finset.exists_mem_eq_sup' (⟨0, Finset.mem_univ _⟩ : (Finset.univ : Finset (Fin 512)).Nonempty) t
  have hall : ∀ j, t j ≤ t j0 := fun j => hj0 ▸ Finset.le_sup' t (Finset.mem_univ j)
  have hX : (multiReduction .maximumf [0] S256 (accMax P 15) 0xFF800000#32 reduces_S8x256_S256 (.inl rfl) rfl
      : FVec Ideal S256 .f32) (ix1 c) = ((t j0 : ℝ) : EReal) :=
    le_antisymm ((e _).2 fun j => EReal.coe_le_coe_iff.2 (hall j)) ((e _).1 (le_refl _) j0)
  show Ideal.liftRound Ideal.roundHalfEven (shapeCast S1x256 _ shapeCasts_S256_S1x256 (ix2 0 c)) = _
  rw [cast_row, hX, lift_coe, round_max t hall ⟨j0, rfl⟩]

/-! ## The exponentials and their sum -/

theorem pay50_apply (s : FVec Ideal S1x256 .f32) (x : Vec Ideal S32x256 .f32) (r : Fin 32) (c : Fin 256) :
    k0_pay50 s x (ix2 r c) = expE (s (ix2 0 c) - Ideal.liftRound Ideal.roundHalfEven (x (ix2 r c))) := by
  rw [← spread_row s r c]
  rfl

section Column

variable {m : FVec Ideal S1x256 .f32} {acc : FVec Ideal S512x256 .f32} {t : Fin 512 → ℝ} {c : Fin 256}
  (hT : ∀ k r, tRaw m acc k (ix2 r c) = ((t (rowIx k r) : ℝ) : EReal)) (hF : Fits t)

include hT hF in
theorem eTile_eq (k : Fin 16) (r : Fin 32) : eTile m acc k (ix2 r c) = ((eN t (rowIx k r) : ℝ) : EReal) := by
  unfold eTile
  rw [pay50_apply, smaxOf_eq _ t c hT, hT, lift_coe, ← EReal.coe_sub]
  have h : ((mxI t : ℤ) : ℝ) - ((Ideal.roundHalfEven (t (rowIx k r)) : ℤ) : ℝ) = ((distN t (rowIx k r) : ℕ) : ℝ) := by
    have := distN_cast t (rowIx k r)
    have h2 : (((distN t (rowIx k r) : ℕ) : ℤ) : ℝ) = ((mxI t - nI t (rowIx k r) : ℤ) : ℝ) := by rw [this]
    push_cast at h2
    rw [h2]; rfl
  rw [h, expE_nat ((distN_le hF _).trans (by norm_num))]
  rfl

end Column

theorem blkSum_eq (x : FVec Ideal S32x256 .f32) (s : Fin 8) (c : Fin 256) :
    blkSum x (ix2 s c) = ∑ a : Fin 4, x (ix2 (subIx a s) c) := by
  refine (Ideal.multiReduction_add_single _ _ reduces_S4x8x256_S8x256 (.inl rfl) rfl (ix2 s c)).trans ?_
  refine Finset.sum_congr rfl fun a _ => ?_
  exact (congrArg (shapeCast S4x8x256 x shapeCasts_S32x256_S4x8x256) (lift_groups a s c)).trans (cast_groups x a s c)

theorem accSum_eq (P : Fin 16 → FVec Ideal S32x256 .f32) (n : ℕ) (s : Fin 8) (c : Fin 256) :
    accSum P n (ix2 s c) = ∑ k ∈ Finset.range (n + 1), ∑ a : Fin 4, P (Fin.ofNat 16 k) (ix2 (subIx a s) c) := by
  induction n with
  | zero =>
    show blkSum (P 0) (ix2 s c) = _
    rw [blkSum_eq]
    simp
  | succ n ih =>
    show accSum P n (ix2 s c) + blkSum (P (Fin.ofNat 16 (n + 1))) (ix2 s c) = _
    rw [ih, blkSum_eq, Finset.sum_range_succ _ (n + 1)]

/-- The 512 rows as eight-row groups of the sixteen blocks. -/
def rowsEquiv : (Fin 8 × Fin 16 × Fin 4) ≃ Fin 512 where
  toFun p := rowIx p.2.1 (subIx p.2.2 p.1)
  invFun j := (⟨j.1 % 8, by omega⟩, ⟨j.1 / 32, by omega⟩, ⟨j.1 % 32 / 8, by omega⟩)
  left_inv := by
    rintro ⟨s, k, a⟩
    have hs := s.isLt
    have ha := a.isLt
    refine Prod.ext (Fin.ext ?_) (Prod.ext (Fin.ext ?_) (Fin.ext ?_))
    · show (32 * k.1 + (8 * a.1 + s.1)) % 8 = s.1; omega
    · show (32 * k.1 + (8 * a.1 + s.1)) / 32 = k.1; omega
    · show (32 * k.1 + (8 * a.1 + s.1)) % 32 / 8 = a.1; omega
  right_inv := by
    intro j
    apply Fin.ext
    show 32 * (j.1 / 32) + (8 * (j.1 % 32 / 8) + j.1 % 8) = j.1
    omega

theorem coe_sum_nat {ι : Type} (S : Finset ι) (f : ι → ℕ) : (∑ j ∈ S, ((f j : ℝ) : EReal)) = (((∑ j ∈ S, f j : ℕ) : ℝ) : EReal) := by
  classical
  induction S using Finset.induction_on with
  | empty => simp
  | insert a S ha ih => rw [Finset.sum_insert ha, Finset.sum_insert ha, ih, ← EReal.coe_add]; push_cast; rfl

theorem totalOf_eq (P : Fin 16 → FVec Ideal S32x256 .f32) (f : Fin 512 → ℕ) (c : Fin 256)
    (hP : ∀ k r, P k (ix2 r c) = ((f (rowIx k r) : ℝ) : EReal)) :
    totalOf P (ix2 0 c) = ((((∑ j, f j : ℕ) : ℝ) + 1 / 4 : ℝ) : EReal) := by
  have e1 : (multiReduction .add [0] S256 (accSum P 15) 0x00000000#32 reduces_S8x256_S256 (.inl rfl) rfl : FVec Ideal S256 .f32) (ix1 c)
      = ∑ s : Fin 8, accSum P 15 (ix2 s c) := by
    refine (Ideal.multiReduction_add_single _ _ reduces_S8x256_S256 (.inl rfl) rfl (ix1 c)).trans ?_
    refine Finset.sum_congr rfl fun s _ => ?_
    exact congrArg (accSum P 15) (lift_last s c)
  have e2 : ∑ s : Fin 8, accSum P 15 (ix2 s c) = ∑ j : Fin 512, ((f j : ℝ) : EReal) := by
    rw [← Equiv.sum_comp rowsEquiv, Fintype.sum_prod_type]
    refine Finset.sum_congr rfl fun s _ => ?_
    rw [accSum_eq, Finset.sum_range, Fintype.sum_prod_type]
    refine Finset.sum_congr rfl fun k _ => Finset.sum_congr rfl fun a _ => ?_
    rw [show Fin.ofNat 16 k.1 = k from Fin.ext (Nat.mod_eq_of_lt k.isLt), hP]
    rfl
  show shapeCast S1x256 _ shapeCasts_S256_S1x256 (ix2 0 c) + Ideal.ofBits .f32 0x3E800000#32 = _
  rw [cast_row, e1, e2, coe_sum_nat, bits_quarter, ← EReal.coe_add]

/-! ## The pairs of exponent fields -/

theorem srcIdx_eq {R r n v w : ℕ} (h : (⟨2, ![R, n]⟩ : Shape).Bitcasts v ⟨2, ![r, n]⟩ w) (a : Fin r) (l : Fin n) (p : ℕ)
    (hp : ∀ x : Fin 2, x.val + 2 = 2 → p < (⟨2, ![R, n]⟩ : Shape).size x) (q : Fin R) (hq : q.1 = p) : h.srcIdx (ix2 a l) p hp = ix2 q l := by
  funext x
  match x with
  | ⟨0, _⟩ => exact Fin.ext ((h.srcIdx_row _ _ _ ⟨0, Nat.zero_lt_two⟩ rfl).trans hq.symm)
  | ⟨1, _⟩ => exact Fin.ext (h.srcIdx_other _ _ _ ⟨1, Nat.one_lt_two⟩ (by show ¬ (1 + 2 = 2); decide))

theorem row_ix2 {r n : ℕ} (a : Fin r) (l : Fin n) : Shape.row (s := ⟨2, ![r, n]⟩) (ix2 a l) = a.1 := rfl

theorem invert_mask (x y : BitVec 16) :
    ((x ++ y : BitVec 32) ^^^ 4294967295#32) &&& 2139127680#32 = (~~~x &&& 0x7F80#16) ++ (~~~y &&& 0x7F80#16) := by
  have e1 : ((x ++ y : BitVec (16 + 16)) ^^^ (BitVec.allOnes 16 ++ BitVec.allOnes 16)) = (x ^^^ BitVec.allOnes 16) ++ (y ^^^ BitVec.allOnes 16) := by
    rw [BitVec.xor_append]
  have e2 : ((~~~x ++ ~~~y : BitVec (16 + 16)) &&& (0x7F80#16 ++ 0x7F80#16)) = (~~~x &&& 0x7F80#16) ++ (~~~y &&& 0x7F80#16) := by
    rw [BitVec.and_append]
  show ((x ++ y : BitVec (16 + 16)) ^^^ 4294967295#(16 + 16)) &&& 2139127680#(16 + 16) = _
  rw [show 4294967295#(16 + 16) = BitVec.allOnes 16 ++ BitVec.allOnes 16 by decide,
    show 2139127680#(16 + 16) = 0x7F80#16 ++ 0x7F80#16 by decide, e1, BitVec.xor_allOnes, BitVec.xor_allOnes, e2]

theorem unpair (y : S16x256.Idx → BitVec 32) (r : Fin 32) (c : Fin 256) :
    bitcast S32x256 16 y bitcasts_S16x256_w32_S32x256_w16 (ix2 r c)
      = BitVec.extractLsb' (16 * (r.1 % 2)) 16 (y (ix2 ⟨r.1 / 2, by omega⟩ c)) := by
  rw [bitcast_32_16]
  refine congrArg (fun z => BitVec.extractLsb' (16 * (r.1 % 2)) 16 (y z)) ?_
  exact srcIdx_eq _ r c _ _ ⟨r.1 / 2, by omega⟩ rfl

theorem pairs_apply (total : FVec Ideal S1x256 .f32) (x : Vec Ideal S32x256 .f32) (a : Fin 16) (c : Fin 256) :
    pairsOf total x (ix2 a c)
      = (~~~ halfWord (wordsOf total x (ix2 ⟨2 * a.1 + 1, by omega⟩ c)) &&& 0x7F80#16)
        ++ (~~~ halfWord (wordsOf total x (ix2 ⟨2 * a.1, by omega⟩ c)) &&& 0x7F80#16) := by
  rw [← invert_mask]
  have e : ∀ (y : S32x256.Idx → BitVec 16), bitcast S16x256 32 y bitcasts_S32x256_w16_S16x256_w32 (ix2 a c)
      = y (ix2 ⟨2 * a.1 + 1, by omega⟩ c) ++ y (ix2 ⟨2 * a.1, by omega⟩ c) := by
    intro y
    rw [bitcast_16_32]
    congr 2
    · exact srcIdx_eq _ a c _ _ _ rfl
    · exact srcIdx_eq _ a c _ _ _ rfl
  show (bitcast S16x256 32 _ bitcasts_S32x256_w16_S16x256_w32 (ix2 a c) ^^^ 4294967295#32) &&& 2139127680#32 = _
  rw [e]
  rfl

theorem words_apply (total : FVec Ideal S1x256 .f32) (x : Vec Ideal S32x256 .f32) (r : Fin 32) (c : Fin 256) :
    wordsOf total x (ix2 r c) = biasWord (Ideal.fptosi 32 (ratioE (total (ix2 0 c)) (x (ix2 r c)))) := by
  rw [← spread_row total r c]
  rfl

section Column

variable {m : FVec Ideal S1x256 .f32} {acc : FVec Ideal S512x256 .f32} {t : Fin 512 → ℝ} {c : Fin 256}
  (hT : ∀ k r, tRaw m acc k (ix2 r c) = ((t (rowIx k r) : ℝ) : EReal)) (hF : Fits t)

include hT hF

theorem half_eq (k : Fin 16) (r : Fin 32) :
    ~~~ halfWord (wordsOf (totalOf (eTile m acc)) (eTile m acc k) (ix2 r c)) &&& 0x7F80#16
      = BitVec.ofNat 16 ((127 - codeOf t (rowIx k r)) * 128) := by
  rw [words_apply, totalOf_eq _ (eN t) c (eTile_eq hT hF), eTile_eq hT hF, ratioE_nat,
    fptosi32_nat ((ratioN_le _ _).trans (by norm_num))]
  exact half_ratio (eN_le_sum t _)

theorem pairs_eq (k : Fin 16) (a : Fin 16) :
    pairsOf (totalOf (eTile m acc)) (eTile m acc k) (ix2 a c)
      = BitVec.ofNat 16 ((127 - codeOf t (rowIx k ⟨2 * a.1 + 1, by omega⟩)) * 128)
        ++ BitVec.ofNat 16 ((127 - codeOf t (rowIx k ⟨2 * a.1, by omega⟩)) * 128) := by
  rw [pairs_apply, half_eq hT hF, half_eq hT hF]

/-- The weights of the tile's column. -/
theorem wTile_eq (j : Fin 512) : wTile m acc (ix2 j c) = wt (codeOf t j) := by
  set k : Fin 16 := ⟨j.1 / 32, by omega⟩ with hk
  set r : Fin 32 := ⟨j.1 % 32, by omega⟩ with hr
  have hj : rowIx k r = j := Fin.ext (by show 32 * (j.1 / 32) + j.1 % 32 = j.1; omega)
  show wP (totalOf (eTile m acc)) (eTile m acc k) (ix2 r c) = _
  unfold wP
  rw [shapeCast_self]
  show Ideal.ofBits .bf16 (bitcast S32x256 16 _ bitcasts_S16x256_w32_S32x256_w16 (ix2 r c)) = _
  rw [unpair, pairs_eq hT hF]
  rw [← wt_half _ (codeOf_le j)]
  congr 1
  rcases Nat.mod_two_eq_zero_or_one r.1 with h | h
  · rw [h]
    have e : (⟨2 * (r.1 / 2), by omega⟩ : Fin 32) = r := Fin.ext (by show 2 * (r.1 / 2) = r.1; omega)
    rw [BitVec.extractLsb'_append_eq_right]
    show BitVec.ofNat 16 ((127 - codeOf t (rowIx k ⟨2 * (r.1 / 2), by omega⟩)) * 128) = _
    rw [e, hj]
  · rw [h]
    have e : (⟨2 * (r.1 / 2) + 1, by omega⟩ : Fin 32) = r := Fin.ext (by show 2 * (r.1 / 2) + 1 = r.1; omega)
    rw [BitVec.extractLsb'_append_eq_left]
    show BitVec.ofNat 16 ((127 - codeOf t (rowIx k ⟨2 * (r.1 / 2) + 1, by omega⟩)) * 128) = _
    rw [e, hj]

/-- The folded pair words of the tile's column, row pair `i`. -/
theorem cTile_eq (i : Fin 256) :
    cTile m acc (ix2 i c)
      = (let w : BitVec 32 := BitVec.ofNat 16 ((127 - codeOf t ⟨2 * i.1 + 1, by omega⟩) * 128)
          ++ BitVec.ofNat 16 ((127 - codeOf t ⟨2 * i.1, by omega⟩) * 128)
        IntOp.xori (IntOp.shrui .vector w 7#32) (IntOp.shrui .vector w 19#32)) := by
  set k : Fin 16 := ⟨i.1 / 16, by omega⟩ with hk
  set a : Fin 16 := ⟨i.1 % 16, by omega⟩ with ha
  show cP (totalOf (eTile m acc)) (eTile m acc k) (ix2 a c) = _
  unfold cP
  rw [shapeCast_self]
  show IntOp.xori (IntOp.shrui .vector (pairsOf (totalOf (eTile m acc)) (eTile m acc k) (ix2 a c)) 7#32)
    (IntOp.shrui .vector (pairsOf (totalOf (eTile m acc)) (eTile m acc k) (ix2 a c)) 19#32) = _
  rw [pairs_eq hT hF]
  have e1 : rowIx k ⟨2 * a.1 + 1, by omega⟩ = ⟨2 * i.1 + 1, by omega⟩ := Fin.ext (by
    show 32 * (i.1 / 16) + (2 * (i.1 % 16) + 1) = 2 * i.1 + 1; omega)
  have e0 : rowIx k ⟨2 * a.1, by omega⟩ = ⟨2 * i.1, by omega⟩ := Fin.ext (by
    show 32 * (i.1 / 16) + (2 * (i.1 % 16)) = 2 * i.1; omega)
  rw [e1, e0]

end Column

/-! ## The packed bytes -/

theorem mask_bits : ∀ q < 32, (2408550287#32 : BitVec 32).getLsbD q = (0x8F#8 : BitVec 8).getLsbD (q % 8) := by decide

theorem flip_bytes (y : S256x256.Idx → BitVec 8) (q i : Fin 256) :
    bitcast S256x256 8 (xori (bitcast S64x256 32 y bitcasts_S256x256_w8_S64x256_w32) (broadcast S64x256 2408550287#32))
      bitcasts_S64x256_w32_S256x256_w8 (ix2 q i) = y (ix2 q i) ^^^ 0x8F#8 := by
  apply BitVec.eq_of_getLsbD_eq
  intro b hb
  rw [bitcast_getLsbD _ _ _ b hb (by decide), BitVec.getLsbD_xor]
  have e : bitcasts_S64x256_w32_S256x256_w8.srcIdx (ix2 q i) ((Shape.row (s := S256x256) (ix2 q i) * 8 + b) / 32)
      (fun x hx => by have := q.isLt; show (q.1 * 8 + b) / 32 < _; match x, hx with | ⟨0, _⟩, _ => show _ < 64; omega)
      = ix2 (⟨(q.1 * 8 + b) / 32, by omega⟩ : Fin 64) i := srcIdx_eq _ q i _ _ ⟨(q.1 * 8 + b) / 32, by omega⟩ rfl
  refine (congrArg (fun z => (xori (bitcast S64x256 32 y bitcasts_S256x256_w8_S64x256_w32) (broadcast S64x256 2408550287#32) z).getLsbD
    ((q.1 * 8 + b) % 32)) e).trans ?_
  show ((bitcast S64x256 32 y bitcasts_S256x256_w8_S64x256_w32 (ix2 ⟨(q.1 * 8 + b) / 32, by omega⟩ i)) ^^^ 2408550287#32).getLsbD
    ((q.1 * 8 + b) % 32) = _
  rw [BitVec.getLsbD_xor, bitcast_8_32_getLsbD_ix2 y _ _ i _ (Nat.mod_lt _ (by decide)) q
    (by show q.1 = 4 * ((q.1 * 8 + b) / 32) + (q.1 * 8 + b) % 32 / 8; omega), mask_bits _ (Nat.mod_lt _ (by decide))]
  rw [show (q.1 * 8 + b) % 32 % 8 = b by omega]

theorem pay183_apply (v : Vec Ideal S256x256 .i32) (q i : Fin 256) :
    k0_pay183 v (ix4 0 0 q i) = (v (ix2 i q)).setWidth 8 ^^^ 0x8F#8 := by
  have e : ∀ x : S256x256.Idx → BitVec 8, shapeCast S1x1x256x256 x shapeCasts_S256x256_S1x1x256x256 (ix4 0 0 q i) = x (ix2 q i) := by
    intro x
    apply shapeCast_apply
    rw [Shape.rowMajor_val_two, Shape.rowMajor_val_four]
    show q.1 * 256 + i.1 = ((0 * 1 + 0) * 256 + q.1) * 256 + i.1
    omega
  unfold k0_pay183
  refine (e _).trans ((flip_bytes _ q i).trans ?_)
  congr 1
  exact transpose_apply _ _ _ _ (ix2 i q) (fun b => by
    match b with
    | ⟨0, _⟩ => rfl
    | ⟨1, _⟩ => rfl)

end Cert.KernelIdeal.Tile
-- ==== Proof.TileRun.lean ====
/-
  The run's own lists of stores are the closed forms of Tile.lean.
-/
module

public import proofs.«01_k».proof.Proof.Tile

@[expose] public section

set_option synthInstance.maxSize 4096

noncomputable section

namespace Cert.KernelIdeal.Tile

open Idealize.ShloMosaic Idealize.SL.Sem Cert.KernelIdeal.Gen

variable {F : FTy → Type} [FloatOps F]

section Kernel

variable (c : Dev nD) (i : grid0.Coords) (arg1 : Memref sig .tc .vmem S4x1x64x512 .i8) (harg1 : arg1.IsWhole)
  (arg2 : Memref sig .tc .vmem S4x1x64x512 .i8) (harg2 : arg2.IsWhole) (arg3 : Memref sig .tc .vmem S4x1x64x512 .i8) (harg3 : arg3.IsWhole)
  (arg4 : Memref sig .tc .vmem S1x4x512 .f32) (harg4 : arg4.IsWhole) (arg5 : Memref sig .tc .smem S4x20 .f32) (harg5 : arg5.IsWhole)
  (arg6 : Memref sig .tc .vmem S1x4x64 .f32) (harg6 : arg6.IsWhole) (arg7 : Memref sig .tc .vmem S4x1x64x512 .i8) (harg7 : arg7.IsWhole)
  (arg8 : Memref sig .tc .vmem S1x4x512 .f32) (harg8 : arg8.IsWhole) (arg9 : Memref sig .tc .vmem S4x1x512x256 .i8) (harg9 : arg9.IsWhole)
  (arg10 : Memref sig .tc .vmem S512x256 .f32) (harg10 : arg10.IsWhole) (arg11 : Memref sig .tc .vmem S512x256 .f32) (harg11 : arg11.IsWhole)
  (arg12 : Memref sig .tc .vmem S512x256 .bf16) (harg12 : arg12.IsWhole) (arg13 : Memref sig .tc .vmem S256x256 .i32) (harg13 : arg13.IsWhole)
  (x0 x1 x2 : Vec F S4x1x64x512 .i8) (x3 : Vec F S1x4x512 .f32) (x4 : Vec F S4x20 .f32) (x5 : Vec F S1x4x64 .f32)

def mK : ℕ → FVec F S1x256 .f32 := mOf (qsAt arg4 harg4 x3) (ksAt i arg5 harg5 x4)
def accK : ℕ → FVec F S512x256 .f32 := accOf (codesAt arg1 harg1 x0) (codesAt arg2 harg2 x1)

theorem pieces6 : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1
    = down8 fun n => ⟨ocRect n, ocOf (k0_pay7 (codesAt arg3 harg3 x2 (batch n.1))) (k0_pay9 (vsAt arg6 harg6 x5 (batch n.1)))
        (ldW (mK i arg4 harg4 arg5 harg5 x3 x4) (accK arg1 harg1 arg2 harg2 x0 x1) arg10 arg11 arg12 n.1)⟩ := by
  sl_kernel_rfl

theorem pieces7 : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.1
    = down8 fun n => ⟨osRect n, osOf (k0_pay7 (codesAt arg3 harg3 x2 (batch n.1))) (k0_pay9 (vsAt arg6 harg6 x5 (batch n.1)))
        (ldW (mK i arg4 harg4 arg5 harg5 x3 x4) (accK arg1 harg1 arg2 harg2 x0 x1) arg10 arg11 arg12 n.1)⟩ := by
  sl_kernel_rfl

theorem pieces8 : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5).2.2.1
    = down8 fun n => ⟨pkRect n, k0_pay183 (ldC (mK i arg4 harg4 arg5 harg5 x3 x4) (accK arg1 harg1 arg2 harg2 x0 x1) arg10 arg11 arg13 n.1)⟩ := by
  sl_kernel_rfl

end Kernel

end Cert.KernelIdeal.Tile
-- ==== Proof.Attn.lean ====
/-
  What the attention computes, in one place: the scores, the codes, the weighted sums, their quantization, and the three results as
  functions of the arguments. The kernel and the reference are both shown to leave these.
-/
module

public import proofs.«01_k».proof.Proof.Spec

@[expose] public section

set_option maxRecDepth 16384

noncomputable section

namespace Cert.LogAttn

open Idealize.ShloMosaic

/-! ### Quantizing a column -/

theorem bits_127 : Ideal.ofBits .f32 0x42FE0000#32 = ((127 : ℝ) : EReal) := by
  simp [Ideal.ofBits, Ideal.ieee]; rw [← EReal.coe_mul]; norm_num
theorem bits_n127 : Ideal.ofBits .f32 0xC2FE0000#32 = ((-127 : ℝ) : EReal) := by
  simp [Ideal.ofBits, Ideal.ieee]; rw [← EReal.coe_mul]; norm_num

/-- The largest magnitude of 64 values. -/
def amaxE (y : Fin 64 → EReal) : EReal :=
  (Finset.univ : Finset (Fin 64)).fold max (Ideal.ofBits .f32 0xFF800000#32) fun ch => max (y ch) (-(y ch))
/-- Their scale: a 127th of it, one if all are zero. -/
def scaleE (y : Fin 64 → EReal) : EReal :=
  Scalar.select (Ideal.cmp .oeq (amaxE y) (Ideal.ofBits .f32 0x00000000#32)) (Ideal.ofBits .f32 0x3F800000#32)
    (Ideal.div (amaxE y) (Ideal.ofBits .f32 0x42FE0000#32))
/-- A value's level. -/
def levelE (y : Fin 64 → EReal) (ch : Fin 64) : EReal :=
  min (Ideal.ofBits .f32 0x42FE0000#32) (max (Ideal.ofBits .f32 0xC2FE0000#32)
    (Ideal.liftRound Ideal.roundHalfEven (Ideal.div (y ch) (scaleE y))))

theorem clip_int (x : EReal) : ∃ z : ℤ, -127 ≤ z ∧ z ≤ 127 ∧
    min (Ideal.ofBits .f32 0x42FE0000#32) (max (Ideal.ofBits .f32 0xC2FE0000#32) (Ideal.liftRound Ideal.roundHalfEven x)) = ((z : ℝ) : EReal) := by
  rw [bits_127, bits_n127]
  have hlt : ((-127 : ℝ) : EReal) ≤ ((127 : ℝ) : EReal) := EReal.coe_le_coe_iff.2 (by norm_num)
  induction x with
  | bot =>
    refine ⟨-127, le_refl _, by norm_num, ?_⟩
    rw [Ideal.liftRound_bot, max_eq_left bot_le, min_eq_right hlt]; push_cast; rfl
  | top =>
    refine ⟨127, by norm_num, le_refl _, ?_⟩
    rw [Ideal.liftRound_top, max_eq_right le_top, min_eq_left le_top]; push_cast; rfl
  | coe r =>
    refine ⟨min 127 (max (-127) (Ideal.roundHalfEven r)), by omega, by omega, ?_⟩
    rw [lift_coe, ← EReal.coe_strictMono.monotone.map_max, ← EReal.coe_strictMono.monotone.map_min]
    push_cast
    rfl

theorem narrow_table : ∀ k : ℕ, k < 255 → (BitVec.ofInt 32 ((k : ℤ) - 127)).setWidth 8 = BitVec.ofInt 8 ((k : ℤ) - 127) := by decide +kernel

/-- Converting a level to eight bits directly, or through 32. -/
theorem level_narrow (y : Fin 64 → EReal) (ch : Fin 64) : (Ideal.fptosi 32 (levelE y ch)).setWidth 8 = Ideal.fptosi 8 (levelE y ch) := by
  obtain ⟨z, h1, h2, h⟩ := clip_int (Ideal.div (y ch) (scaleE y))
  unfold levelE
  rw [h, fptosi32_int (by omega) (by omega), fptosi8_int (by omega) (by omega)]
  have := narrow_table (z + 127).toNat (by omega)
  rw [Int.toNat_of_nonneg (by omega), add_sub_cancel_right] at this
  exact this

/-! ### The arguments and the scores -/

/-- The arguments: the codes of q, k and v over (batch, position, head, channel), and the scales. -/
structure In where
  q : Fin 4 → Fin 512 → Fin 20 → Fin 64 → BitVec 8
  k : Fin 4 → Fin 512 → Fin 20 → Fin 64 → BitVec 8
  v : Fin 4 → Fin 512 → Fin 20 → Fin 64 → BitVec 8
  qs : Fin 4 → Fin 512 → Fin 20 → EReal
  ks : Fin 4 → Fin 20 → EReal
  vs : Fin 4 → Fin 20 → Fin 64 → EReal

/-- An eight-bit code as a real. -/
def val8 (x : BitVec 8) : EReal := ((x.toInt : ℝ) : EReal)

variable (I : In)

/-- The precondition: the product of the two scales is at most 255 in magnitude. -/
def Small : Prop := ∀ b i h, max (I.qs b i h * I.ks b h) (-(I.qs b i h * I.ks b h)) ≤ ((255 : ℝ) : EReal)

/-- The score of query `i` and key `j`. -/
def score (b : Fin 4) (h : Fin 20) (i j : Fin 512) : EReal :=
  (∑ d : Fin 64, val8 (I.q b i h d) * val8 (I.k b j h d)) * ((I.qs b i h * I.ks b h) * Ideal.ofBits .f32 0x40800000#32)

/-- The scores of a query's row, as reals. -/
def tOf (b : Fin 4) (h : Fin 20) (i j : Fin 512) : ℝ := (score I b h i j).toReal

def dotN (b : Fin 4) (h : Fin 20) (i j : Fin 512) : ℤ := ∑ d : Fin 64, (I.q b i h d).toInt * (I.k b j h d).toInt

theorem coe_sum_int {ι : Type} (S : Finset ι) (f : ι → ℤ) : (∑ j ∈ S, ((f j : ℝ) : EReal)) = (((∑ j ∈ S, f j : ℤ) : ℝ) : EReal) := by
  classical
  induction S using Finset.induction_on with
  | empty => simp
  | insert a S ha ih => rw [Finset.sum_insert ha, Finset.sum_insert ha, ih, ← EReal.coe_add]; push_cast; rfl

theorem dot_eq (b : Fin 4) (h : Fin 20) (i j : Fin 512) :
    ∑ d : Fin 64, val8 (I.q b i h d) * val8 (I.k b j h d) = ((dotN I b h i j : ℝ) : EReal) := by
  unfold dotN
  rw [← coe_sum_int]
  refine Finset.sum_congr rfl fun d _ => ?_
  unfold val8
  rw [← EReal.coe_mul]
  push_cast
  rfl

theorem toInt8_abs (x : BitVec 8) : |x.toInt| ≤ 128 := by
  have h1 := BitVec.le_toInt x
  have h2 := BitVec.toInt_lt (x := x)
  rw [abs_le]
  constructor
  · simpa using h1
  · have : x.toInt < 128 := by simpa using h2
    omega

theorem dotN_abs (b : Fin 4) (h : Fin 20) (i j : Fin 512) : |dotN I b h i j| ≤ 1048576 := by
  unfold dotN
  refine (Finset.abs_sum_le_sum_abs _ _).trans ?_
  refine (Finset.sum_le_sum (g := fun _ => (16384 : ℤ)) fun d _ => ?_).trans ?_
  · rw [abs_mul]
    have h1 := toInt8_abs (I.q b i h d)
    have h2 := toInt8_abs (I.k b j h d)
    nlinarith [abs_nonneg (I.q b i h d).toInt, abs_nonneg (I.k b j h d).toInt]
  · simp

variable {I}

/-- The scores are reals, of a bounded size. -/
theorem score_real (hS : Small I) (b : Fin 4) (h : Fin 20) (i j : Fin 512) :
    score I b h i j = ((tOf I b h i j : ℝ) : EReal) ∧ |tOf I b h i j| ≤ 1069547520 := by
  have hs := hS b i h
  obtain ⟨f, hf, hfb⟩ : ∃ f : ℝ, I.qs b i h * I.ks b h = (f : EReal) ∧ |f| ≤ 255 := by
    generalize I.qs b i h * I.ks b h = x at hs
    have h1 := (max_le_iff.1 hs).1
    have h2 := (max_le_iff.1 hs).2
    induction x with
    | bot => rw [EReal.neg_bot] at h2; exact absurd (top_le_iff.1 h2) (EReal.coe_ne_top _)
    | top => exact absurd (top_le_iff.1 h1) (EReal.coe_ne_top _)
    | coe r =>
      rw [← EReal.coe_neg] at h2
      have a1 := EReal.coe_le_coe_iff.1 h1
      have a2 := EReal.coe_le_coe_iff.1 h2
      exact ⟨r, rfl, abs_le.2 ⟨by linarith, a1⟩⟩
  have e : score I b h i j = ((((dotN I b h i j : ℤ) : ℝ) * (f * 4) : ℝ) : EReal) := by
    unfold score
    rw [dot_eq, hf, bits_4, ← EReal.coe_mul, ← EReal.coe_mul]
  have ht : tOf I b h i j = ((dotN I b h i j : ℤ) : ℝ) * (f * 4) := by
    unfold tOf; rw [e, EReal.toReal_coe]
  refine ⟨by rw [e, ht], ?_⟩
  rw [ht, abs_mul, abs_mul]
  have hd : |((dotN I b h i j : ℤ) : ℝ)| ≤ 1048576 := by
    have := dotN_abs I b h i j
    exact_mod_cast this
  have h4 : |(4 : ℝ)| = 4 := abs_of_pos (by norm_num)
  rw [h4]
  nlinarith [abs_nonneg ((dotN I b h i j : ℤ) : ℝ), abs_nonneg f]

theorem fits (hS : Small I) (b : Fin 4) (h : Fin 20) (i : Fin 512) : Fits (tOf I b h i) := fun j => (score_real hS b h i j).2

/-! ### The results -/

variable (I)

/-- The weighted sum of channel `ch`, scaled. -/
def yOf (b : Fin 4) (h : Fin 20) (i : Fin 512) (ch : Fin 64) : EReal :=
  (∑ j : Fin 512, val8 (I.v b j h ch) * wt (codeOf (tOf I b h i) j)) * I.vs b h ch

/-- First result: the output's codes. -/
def outCode (b : Fin 4) (h : Fin 20) (ch : Fin 64) (i : Fin 512) : BitVec 8 := Ideal.fptosi 8 (levelE (yOf I b h i) ch)
/-- Second result: the output's scales. -/
def outScale (h : Fin 20) (b : Fin 4) (i : Fin 512) : EReal := scaleE (yOf I b h i)
/-- Third result: the attention's codes, two to a byte. -/
def outByte (b : Fin 4) (h : Fin 20) (i : Fin 512) (p : Fin 256) : BitVec 8 :=
  byteN (codeOf (tOf I b h i) ⟨2 * p.1, by omega⟩) (codeOf (tOf I b h i) ⟨2 * p.1 + 1, by omega⟩)

end Cert.LogAttn
-- ==== Proof.TileOut.lean ====
/-
  What a grid point leaves in its three output blocks, from the input blocks: the results of Attn at the point's head.
-/
module

public import proofs.«01_k».proof.Proof.TileVal
public import proofs.«01_k».proof.Proof.TileRun
public import proofs.«01_k».proof.Proof.Attn
public import Idealize.ShloMosaic.Lib.MatmulPlain
public import Idealize.ShloMosaic.Lib.WholeRead

@[expose] public section

set_option synthInstance.maxSize 4096

noncomputable section

namespace Cert.KernelIdeal.Tile

open Idealize.ShloMosaic Idealize.ShloMosaic.ValueIdx Idealize.SL.Sem Cert.KernelIdeal.Gen Cert.LogAttn

/-! ## The loads -/

theorem codesAt_apply (M : Memref sig .tc .vmem S4x1x64x512 .i8) (hM : M.IsWhole) (x : Vec Ideal S4x1x64x512 .i8) (b : Fin 4)
    (d : Fin 64) (j : Fin 512) : codesAt M hM x b (ix4 0 0 d j) = x (ix4 b 0 d j) := by
  refine (hM.readAt_unread x _ _).trans (congrArg x ?_)
  funext a
  match a with
  | ⟨0, _⟩ => exact Fin.ext (by show b.1 + 1 * 0 = b.1; omega)
  | ⟨1, _⟩ => exact Fin.ext (by show 0 + 1 * 0 = 0; omega)
  | ⟨2, _⟩ => exact Fin.ext (by show 0 + 1 * d.1 = d.1; omega)
  | ⟨3, _⟩ => exact Fin.ext (by show 0 + 1 * j.1 = j.1; omega)

theorem qsAt_apply (M : Memref sig .tc .vmem S1x4x512 .f32) (hM : M.IsWhole) (x : Vec Ideal S1x4x512 .f32) (b : Fin 4) (j : Fin 512) :
    qsAt M hM x b (ix3 0 0 j) = x (ix3 0 b j) := by
  refine (hM.readAt_unread x _ _).trans (congrArg x ?_)
  funext a
  match a with
  | ⟨0, _⟩ => exact Fin.ext (by show 0 + 1 * 0 = 0; omega)
  | ⟨1, _⟩ => exact Fin.ext (by show b.1 + 1 * 0 = b.1; omega)
  | ⟨2, _⟩ => exact Fin.ext (by show 0 + 1 * j.1 = j.1; omega)

theorem vsAt_apply (M : Memref sig .tc .vmem S1x4x64 .f32) (hM : M.IsWhole) (x : Vec Ideal S1x4x64 .f32) (b : Fin 4) (d : Fin 64) :
    vsAt M hM x b (ix3 0 0 d) = x (ix3 0 b d) := by
  refine (hM.readAt_unread x _ _).trans (congrArg x ?_)
  funext a
  match a with
  | ⟨0, _⟩ => exact Fin.ext (by show 0 + 1 * 0 = 0; omega)
  | ⟨1, _⟩ => exact Fin.ext (by show b.1 + 1 * 0 = b.1; omega)
  | ⟨2, _⟩ => exact Fin.ext (by show 0 + 1 * d.1 = d.1; omega)

theorem scale_at (M : Memref sig .tc .smem S4x20 .f32) (hM : M.IsWhole) (x : Vec Ideal S4x20 .f32) (off : Fin 2 → ℕ)
    (inb : ∀ a, off a + S1x1.size a ≤ S4x20.size a) (b : Fin 4) (h : Fin 20) (e : off = ![b.1, h.1]) :
    View.readAt (Elt Ideal) M.view (Rect.unit (s := S4x20) off S1x1.size inb).toLoadRect (hM.unread x) (Shape.Idx.first one_pos11)
      = x (ix2 b h) := by
  subst e
  refine (hM.readAt_unread x _ _).trans (congrArg x ?_)
  funext a
  match a with
  | ⟨0, _⟩ => exact Fin.ext (by show b.1 + 1 * 0 = b.1; omega)
  | ⟨1, _⟩ => exact Fin.ext (by show h.1 + 1 * 0 = h.1; omega)

theorem ksAt_apply (i : grid0.Coords) (M : Memref sig .tc .smem S4x20 .f32) (hM : M.IsWhole) (x : Vec Ideal S4x20 .f32) (b : Fin 4)
    (h : Fin 20) (hh : (i 0).val = h.1) : ksAt i M hM x b = x (ix2 b h) := by
  match b with
  | 0 => exact scale_at M hM x _ _ 0 h (by rw [k0_off1_eq, hh]; rfl)
  | 1 => exact scale_at M hM x _ _ 1 h (by rw [k0_off2_eq, hh]; rfl)
  | 2 => exact scale_at M hM x _ _ 2 h (by rw [k0_off3_eq, hh]; rfl)
  | 3 => exact scale_at M hM x _ _ 3 h (by rw [k0_off4_eq, hh]; rfl)

/-! ## The operands -/

theorem cast_codes {α : Type} (x : S1x1x64x512.Idx → α) (d : Fin 64) (j : Fin 512) :
    shapeCast S64x512 x shapeCasts_S1x1x64x512_S64x512 (ix2 d j) = x (ix4 0 0 d j) := by
  apply shapeCast_apply
  rw [Shape.rowMajor_val_two, Shape.rowMajor_val_four]
  show ((0 * 1 + 0) * 64 + d.1) * 512 + j.1 = d.1 * 512 + j.1
  omega

theorem pay7_apply (x : Vec Ideal S1x1x64x512 .i8) (d : Fin 64) (j : Fin 512) : k0_pay7 x (ix2 d j) = val8 (x (ix4 0 0 d j)) := by
  rw [← cast_codes x d j]; rfl
theorem pay6_apply (x : Vec Ideal S1x1x64x512 .i8) (d : Fin 64) (j : Fin 512) : k0_pay6 x (ix2 d j) = val8 (x (ix4 0 0 d j)) := by
  rw [← cast_codes x d j]; rfl
theorem pay5_apply (x : Vec Ideal S1x1x64x512 .i8) (d : Fin 64) (j : Fin 512) : k0_pay5 x (ix2 j d) = val8 (x (ix4 0 0 d j)) := by
  have e : transpose S512x64 [1, 0] (shapeCast S64x512 x shapeCasts_S1x1x64x512_S64x512) transposes_S64x512_p1_0_S512x64 (ix2 j d)
      = x (ix4 0 0 d j) := by
    refine (transpose_apply _ _ _ _ (ix2 d j) (fun b => ?_)).trans (cast_codes x d j)
    match b with
    | ⟨0, _⟩ => rfl
    | ⟨1, _⟩ => rfl
  rw [← e]; rfl

theorem pay8_apply (x : Vec Ideal S1x1x512 .f32) (y : EReal) (j : Fin 512) :
    k0_pay8 x y (ix2 0 j) = (x (ix3 0 0 j) * y) * Ideal.ofBits .f32 0x40800000#32 := by
  have e : shapeCast S1x512 x shapeCasts_S1x1x512_S1x512 (ix2 0 j) = x (ix3 0 0 j) := by
    apply shapeCast_apply
    rw [Shape.rowMajor_val_two, Shape.rowMajor_val_three]
    show (0 * 1 + 0) * 512 + j.1 = 0 * 512 + j.1
    omega
  rw [← e]; rfl

theorem lift_eye (p q : Fin 64) : (reduces_S64x64_S64).lift (ix1 p) q = ix2 p q := by
  funext d
  match d with
  | ⟨0, _⟩ => exact Fin.ext rfl
  | ⟨1, _⟩ => exact Fin.ext rfl

theorem eye_eq : ∀ p q : Fin 64, k0_pay4 (ix2 p q) = BitVec.ofBool (decide (p = q)) := by
  intro p q
  show BitVec.ofBool (BitVec.ofNat 32 (0 * 64 + p.1) == BitVec.ofNat 32 (0 * 64 + q.1)) = _
  rw [Nat.zero_mul, Nat.zero_add, Nat.zero_add]
  congr 1
  rw [Bool.eq_iff_iff, beq_iff_eq, decide_eq_true_iff]
  constructor
  · intro h
    have := congrArg BitVec.toNat h
    rw [BitVec.toNat_ofNat, BitVec.toNat_ofNat] at this
    exact Fin.ext (by omega)
  · rintro rfl; rfl

theorem bits_zero : Ideal.ofBits .f32 0x00000000#32 = 0 := by
  simp [Ideal.ofBits, Ideal.ieee]

/-- The sum over the masked row is the one entry on the diagonal. -/
theorem pay9_apply (x : Vec Ideal S1x1x64 .f32) (p : Fin 64) : k0_pay9 x (ix2 p 0) = x (ix3 0 0 p) := by
  have e0 : ∀ q : Fin 64, broadcastTo S64x64 (shapeCast S1x64 (shapeCast S1x64 x shapeCasts_S1x1x64_S1x64) shapeCasts_S1x64_S1x64)
      broadcasts_S1x64_S64x64 (ix2 p q) = x (ix3 0 0 q) := by
    intro q
    rw [shapeCast_self]
    refine (broadcastTo_apply _ _ _ (ix2 0 q) (fun a => ?_)).trans ?_
    · match a with
      | ⟨0, _⟩ => rfl
      | ⟨1, _⟩ => rfl
    · apply shapeCast_apply
      rw [Shape.rowMajor_val_two, Shape.rowMajor_val_three]
      show (0 * 1 + 0) * 64 + q.1 = 0 * 64 + q.1
      omega
  have e1 : ∀ y : S64.Idx → EReal, shapeCast S64x1 y shapeCasts_S64_S64x1 (ix2 p 0) = y (ix1 p) := by
    intro y
    apply shapeCast_apply
    rw [Shape.rowMajor_val_one, Shape.rowMajor_val_two]
    show p.1 = p.1 * 1 + 0
    omega
  unfold k0_pay9
  refine (e1 _).trans ?_
  refine (Ideal.multiReduction_add_single _ _ reduces_S64x64_S64 (.inl rfl) rfl (ix1 p)).trans ?_
  have e2 : ∀ q : Fin 64, Scalar.select (k0_pay4 (ix2 p q)) (x (ix3 0 0 q)) (Ideal.ofBits .f32 0x00000000#32)
      = if q = p then x (ix3 0 0 p) else 0 := by
    intro q
    rw [eye_eq, bits_zero]
    unfold Scalar.select
    by_cases h : q = p
    · subst h; simp
    · have h' : p ≠ q := fun hh => h hh.symm
      simp [h, h']
  refine (Finset.sum_congr rfl fun q _ => ?_).trans (Finset.sum_ite_eq' (Finset.univ : Finset (Fin 64)) p (fun _ => x (ix3 0 0 p)) |>.trans (if_pos (Finset.mem_univ p)))
  rw [← e2 q, ← e0 q]
  exact congrArg (select k0_pay4 _ _) (lift_eye p q)

/-! ## The scores of a tile -/

theorem accOf_apply (q k : Fin 4 → Vec Ideal S1x1x64x512 .i8) (n : ℕ) (j : Fin 512) (c : Fin 256) (i : Fin 512) (hi : i.1 = 256 * (n % 2) + c.1) :
    accOf q k n (ix2 j c) = ∑ d : Fin 64, val8 (k (batch n) (ix4 0 0 d j)) * val8 (q (batch n) (ix4 0 0 d i)) := by
  unfold accOf
  generalize hL : k0_pay5 (F := Ideal) (k (batch n)) = L
  generalize hR : extractStridedSlice S64x256 ![0, 256 * (n % 2)] (k0_pay6 (F := Ideal) (q (batch n))) (half_acc n) = R
  have e2 := Ideal.matmul_plain_apply (M := 512) (K := 64) (N := 256) (φ₁ := .bf16) (φ₂ := .bf16) none L R (constant (F := Ideal) S512x256 .f32 0x00000000#32) j c
  rw [show (constant (F := Ideal) S512x256 .f32 0x00000000#32) (ix2 j c) = 0 from bits_zero, zero_add] at e2
  refine Eq.trans ?_ (e2.trans ?_)
  · rfl
  subst hL hR
  refine Finset.sum_congr rfl fun d _ => ?_
  rw [pay5_apply, extractStridedSlice_apply _ _ _ _ (ix2 d i) (fun a => by
    match a with
    | ⟨0, _⟩ => show d.1 = 0 + d.1; omega
    | ⟨1, _⟩ => exact hi), pay6_apply]

theorem mOf_apply (qs : Fin 4 → Vec Ideal S1x1x512 .f32) (ks : Fin 4 → EReal) (n : ℕ) (c : Fin 256) (i : Fin 512) (hi : i.1 = 256 * (n % 2) + c.1) :
    mOf qs ks n (ix2 0 c) = (qs (batch n) (ix3 0 0 i) * ks (batch n)) * Ideal.ofBits .f32 0x40800000#32 := by
  unfold mOf
  rw [extractStridedSlice_apply _ _ _ _ (ix2 0 i) (fun a => by
    match a with
    | ⟨0, _⟩ => rfl
    | ⟨1, _⟩ => exact hi), pay8_apply]

theorem tRaw_apply (m : FVec Ideal S1x256 .f32) (acc : FVec Ideal S512x256 .f32) (k : Fin 16) (r : Fin 32) (c : Fin 256) :
    tRaw m acc k (ix2 r c) = acc (ix2 (rowIx k r) c) * m (ix2 0 c) := by
  have e : extractStridedSlice S32x256 ![32 * k.1, 0] acc (slices_rows k) (ix2 r c) = acc (ix2 (rowIx k r) c) :=
    extractStridedSlice_apply _ _ _ _ (ix2 (rowIx k r) c) (fun a => by
      match a with
      | ⟨0, _⟩ => rfl
      | ⟨1, _⟩ => show c.1 = 0 + c.1; omega)
  rw [← e, ← spread_row m r c]
  rfl

/-! ## The quantized output of a tile -/

theorem lift_chan (c : Fin 256) (ch : Fin 64) : (reduces_S64x256_S256).lift (ix1 c) ch = ix2 ch c := by
  funext d
  match d with
  | ⟨0, _⟩ => exact Fin.ext rfl
  | ⟨1, _⟩ => exact Fin.ext rfl

theorem pay184_apply (v : FVec Ideal S64x512 .bf16) (vs : FVec Ideal S64x1 .f32) (w : Vec Ideal S512x256 .bf16) (ch : Fin 64) (c : Fin 256) :
    k0_pay184 v vs w (ix2 ch c) = (∑ j : Fin 512, v (ix2 ch j) * w (ix2 j c)) * vs (ix2 ch 0) := by
  have e : broadcastTo S64x256 vs broadcasts_S64x1_S64x256 (ix2 ch c) = vs (ix2 ch 0) := by
    apply broadcastTo_apply
    intro a
    match a with
    | ⟨0, _⟩ => rfl
    | ⟨1, _⟩ => rfl
  rw [← e]
  have e2 := Ideal.matmul_plain_apply (M := 64) (K := 512) (N := 256) (φ₁ := .bf16) (φ₂ := .bf16) none v w (constant (F := Ideal) S64x256 .f32 0x00000000#32) ch c
  rw [show (constant (F := Ideal) S64x256 .f32 0x00000000#32) (ix2 ch c) = 0 from bits_zero, zero_add] at e2
  rw [← e2]
  rfl

section Quant

variable {v : FVec Ideal S64x512 .bf16} {vs : FVec Ideal S64x1 .f32} {w : Vec Ideal S512x256 .bf16} {Y : Fin 64 → EReal} {c : Fin 256}
  (hY : ∀ ch, k0_pay184 v vs w (ix2 ch c) = Y ch)

include hY

theorem amax_eq : k0_pay185 v vs w (ix2 0 c) = amaxE Y := by
  unfold k0_pay185
  refine (cast_row _ c).trans ?_
  refine (Ideal.multiReduction_maximumf_single _ _ reduces_S64x256_S256 (.inl rfl) rfl (ix1 c)).trans ?_
  refine Finset.fold_congr fun ch _ => ?_
  refine (congrArg (absf (k0_pay184 v vs w)) (lift_chan c ch)).trans ?_
  rw [← hY ch]
  rfl

theorem scale_eq : k0_pay188 (k0_pay186 v vs w) (k0_pay187 v vs w) (Scalar.ofBits .f32 0x3F800000#32) (ix2 0 c) = scaleE Y := by
  unfold scaleE
  rw [← amax_eq hY]
  unfold k0_pay188 k0_pay186 k0_pay187
  generalize k0_pay185 v vs w = z
  rfl

theorem oc_apply (ch : Fin 64) : ocOf v vs w (ix4 0 0 ch c) = Ideal.fptosi 8 (levelE Y ch) := by
  have e : ∀ x : S64x256.Idx → BitVec 8, shapeCast S1x1x64x256 x shapeCasts_S64x256_S1x1x64x256 (ix4 0 0 ch c) = x (ix2 ch c) := by
    intro x
    apply shapeCast_apply
    rw [Shape.rowMajor_val_two, Shape.rowMajor_val_four]
    show ch.1 * 256 + c.1 = ((0 * 1 + 0) * 64 + ch.1) * 256 + c.1
    omega
  have e2 : broadcastTo S64x256 (k0_pay188 (k0_pay186 v vs w) (k0_pay187 v vs w) (Scalar.ofBits .f32 0x3F800000#32)) broadcasts_S1x256_S64x256 (ix2 ch c)
      = scaleE Y := by
    refine (broadcastTo_apply _ _ _ (ix2 0 c) (fun a => ?_)).trans (scale_eq hY)
    match a with
    | ⟨0, _⟩ => rfl
    | ⟨1, _⟩ => rfl
  unfold ocOf k0_pay189
  refine (e _).trans ?_
  unfold levelE
  rw [← e2, ← hY ch]
  generalize broadcastTo S64x256 (k0_pay188 (k0_pay186 v vs w) (k0_pay187 v vs w) (Scalar.ofBits .f32 0x3F800000#32)) broadcasts_S1x256_S64x256 = z
  generalize k0_pay184 v vs w = y
  rfl

theorem os_apply : osOf v vs w (ix3 0 0 c) = scaleE Y := by
  rw [← scale_eq hY]
  unfold osOf k0_pay190
  apply shapeCast_apply
  rw [Shape.rowMajor_val_two, Shape.rowMajor_val_three]
  show 0 * 256 + c.1 = (0 * 1 + 0) * 256 + c.1
  omega

end Quant

end Cert.KernelIdeal.Tile
-- ==== Proof.Point.lean ====
/-
  The three output blocks a grid point leaves: its eight tiles' stores cover each block, and every store holds the results of Attn.
-/
module

public import proofs.«01_k».proof.Proof.TileOut

@[expose] public section

set_option synthInstance.maxSize 4096
set_option maxRecDepth 16384

noncomputable section

namespace Cert.KernelIdeal.Tile

open Idealize.ShloMosaic Idealize.ShloMosaic.ValueIdx Idealize.SL.Sem Cert.KernelIdeal.Gen Cert.LogAttn

attribute [local irreducible] ocOf osOf ldW ldC k0_pay183 k0_pay184 k0_pay7 k0_pay9 yOf tOf codeOf codesAt vsAt qsAt ksAt

theorem mem_down8 {α : Type} (f : Fin 8 → α) (p : α) : p ∈ down8 f ↔ ∃ k, f k = p := by
  rw [show down8 f = (List.finRange 8).reverse.map f from rfl]; simp

/-- The point of head `h` is given blocks that hold the arguments at that head. -/
structure Holds (I : In) (h : Fin 20) (i : grid0.Coords) (x0 x1 x2 : Vec Ideal S4x1x64x512 .i8) (x3 : Vec Ideal S1x4x512 .f32)
    (x4 : Vec Ideal S4x20 .f32) (x5 : Vec Ideal S1x4x64 .f32) : Prop where
  head : (i 0).val = h.1
  q : ∀ b d j, x0 (ix4 b 0 d j) = I.q b j h d
  k : ∀ b d j, x1 (ix4 b 0 d j) = I.k b j h d
  v : ∀ b d j, x2 (ix4 b 0 d j) = I.v b j h d
  qs : ∀ b j, x3 (ix3 0 b j) = I.qs b j h
  ks : ∀ b, x4 (ix2 b h) = I.ks b h
  vs : ∀ b d, x5 (ix3 0 b d) = I.vs b h d

/-- Position `c` of half `n % 2`. -/
def posOf (n : Fin 8) (c : Fin 256) : Fin 512 := ⟨256 * (n.1 % 2) + c.1, by omega⟩

theorem batch_val (n : Fin 8) : (batch n.1).1 = n.1 / 2 := by
  show n.1 / 2 % 4 = n.1 / 2
  omega

section Point

variable (c : Dev nD) (i : grid0.Coords) (arg1 : Memref sig .tc .vmem S4x1x64x512 .i8) (harg1 : arg1.IsWhole)
  (arg2 : Memref sig .tc .vmem S4x1x64x512 .i8) (harg2 : arg2.IsWhole) (arg3 : Memref sig .tc .vmem S4x1x64x512 .i8) (harg3 : arg3.IsWhole)
  (arg4 : Memref sig .tc .vmem S1x4x512 .f32) (harg4 : arg4.IsWhole) (arg5 : Memref sig .tc .smem S4x20 .f32) (harg5 : arg5.IsWhole)
  (arg6 : Memref sig .tc .vmem S1x4x64 .f32) (harg6 : arg6.IsWhole) (arg7 : Memref sig .tc .vmem S4x1x64x512 .i8) (harg7 : arg7.IsWhole)
  (arg8 : Memref sig .tc .vmem S1x4x512 .f32) (harg8 : arg8.IsWhole) (arg9 : Memref sig .tc .vmem S4x1x512x256 .i8) (harg9 : arg9.IsWhole)
  (arg10 : Memref sig .tc .vmem S512x256 .f32) (harg10 : arg10.IsWhole) (arg11 : Memref sig .tc .vmem S512x256 .f32) (harg11 : arg11.IsWhole)
  (arg12 : Memref sig .tc .vmem S512x256 .bf16) (harg12 : arg12.IsWhole) (arg13 : Memref sig .tc .vmem S256x256 .i32) (harg13 : arg13.IsWhole)
  (x0 x1 x2 : Vec Ideal S4x1x64x512 .i8) (x3 : Vec Ideal S1x4x512 .f32) (x4 : Vec Ideal S4x20 .f32) (x5 : Vec Ideal S1x4x64 .f32)
  {I : In} {h : Fin 20} (H : Holds I h i x0 x1 x2 x3 x4 x5) (hS : Small I)

include H hS

/-- A tile's scores are those of the query's row. -/
theorem scores_eq (n : Fin 8) (col : Fin 256) (k : Fin 16) (r : Fin 32) :
    tRaw (mK i arg4 harg4 arg5 harg5 x3 x4 n.1) (accK arg1 harg1 arg2 harg2 x0 x1 n.1) k (ix2 r col)
      = ((tOf I (batch n.1) h (posOf n col) (rowIx k r) : ℝ) : EReal) := by
  rw [← (score_real hS _ _ _ _).1, tRaw_apply]
  have e1 := accOf_apply (codesAt arg1 harg1 x0) (codesAt arg2 harg2 x1) n.1 (rowIx k r) col (posOf n col) rfl
  have e2 := mOf_apply (qsAt arg4 harg4 x3) (ksAt i arg5 harg5 x4) n.1 col (posOf n col) rfl
  rw [qsAt_apply, ksAt_apply i _ _ _ _ h H.head, H.qs, H.ks] at e2
  have e3 : ∑ d : Fin 64, val8 (codesAt arg2 harg2 x1 (batch n.1) (ix4 0 0 d (rowIx k r))) * val8 (codesAt arg1 harg1 x0 (batch n.1) (ix4 0 0 d (posOf n col)))
      = ∑ d : Fin 64, val8 (I.q (batch n.1) (posOf n col) h d) * val8 (I.k (batch n.1) (rowIx k r) h d) := by
    refine Finset.sum_congr rfl fun d _ => ?_
    rw [codesAt_apply, codesAt_apply, H.q, H.k, mul_comm]
  rw [show accK arg1 harg1 arg2 harg2 x0 x1 n.1 (ix2 (rowIx k r) col) = _ from e1.trans e3,
    show mK i arg4 harg4 arg5 harg5 x3 x4 n.1 (ix2 0 col) = _ from e2]
  rfl

theorem wts_eq (n : Fin 8) (col : Fin 256) (j : Fin 512) :
    ldW (mK i arg4 harg4 arg5 harg5 x3 x4) (accK arg1 harg1 arg2 harg2 x0 x1) arg10 arg11 arg12 n.1 (ix2 j col)
      = wt (codeOf (tOf I (batch n.1) h (posOf n col)) j) := by
  rw [ldW_eq]
  exact wTile_eq (scores_eq i arg1 harg1 arg2 harg2 arg4 harg4 arg5 harg5 x0 x1 x2 x3 x4 x5 H hS n col) (fits hS _ _ _) j

theorem sums_eq (n : Fin 8) (col : Fin 256) (ch : Fin 64) :
    k0_pay184 (k0_pay7 (codesAt arg3 harg3 x2 (batch n.1))) (k0_pay9 (vsAt arg6 harg6 x5 (batch n.1)))
        (ldW (mK i arg4 harg4 arg5 harg5 x3 x4) (accK arg1 harg1 arg2 harg2 x0 x1) arg10 arg11 arg12 n.1) (ix2 ch col)
      = yOf I (batch n.1) h (posOf n col) ch := by
  rw [pay184_apply, pay9_apply, vsAt_apply, H.vs]
  unfold yOf
  refine congrArg (· * I.vs (batch n.1) h ch) (Finset.sum_congr rfl fun j _ => ?_)
  rw [wts_eq i arg1 harg1 arg2 harg2 arg4 harg4 arg5 harg5 arg10 arg11 arg12 x0 x1 x2 x3 x4 x5 H hS, pay7_apply, codesAt_apply, H.v]

theorem out6 (b : Fin 4) (ch : Fin 64) (j : Fin 512) :
    out0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b 0 ch j)
      = outCode I b h ch j := by
  have hcov := cover0_A_6 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
  unfold out0_A_6
  rw [View.read_writes_eq_canon _ _ _ hcov]
  refine View.canon_apply_of_pieces (fun y : S4x1x64x512.Idx => outCode I (y 0) h (y 2) (y 3)) _ (fun p hp x => ?_) _ (hcov _)
  rw [pieces6, mem_down8] at hp
  obtain ⟨n, rfl⟩ := hp
  change S1x1x64x256.Idx at x
  obtain ⟨a0, a1, a2, a3, rfl⟩ : ∃ a0 a1 a2 a3, x = ix4 a0 a1 a2 a3 := ⟨x 0, x 1, x 2, x 3, eq_ix4 x⟩
  obtain rfl : a0 = 0 := Subsingleton.elim _ _
  obtain rfl : a1 = 0 := Subsingleton.elim _ _
  refine (oc_apply (sums_eq i arg1 harg1 arg2 harg2 arg3 harg3 arg4 harg4 arg5 harg5 arg6 harg6 arg10 arg11 arg12 x0 x1 x2 x3 x4 x5 H hS n a3) a2).trans ?_
  show outCode I (batch n.1) h a2 (posOf n a3) = outCode I _ h _ _
  congr 1
  · exact Fin.ext ((batch_val n).trans (by show n.1 / 2 = n.1 / 2 + 1 * 0; omega))
  · exact Fin.ext (by show a2.1 = 0 + 1 * a2.1; omega)
  · exact Fin.ext (by show 256 * (n.1 % 2) + a3.1 = 256 * (n.1 % 2) + 1 * a3.1; omega)

theorem out7 (b : Fin 4) (j : Fin 512) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix3 0 b j)
      = outScale I h b j := by
  have hcov := cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
  unfold out0_A_7
  rw [View.read_writes_eq_canon _ _ _ hcov]
  refine View.canon_apply_of_pieces (fun y : S1x4x512.Idx => outScale I h (y 1) (y 2)) _ (fun p hp x => ?_) _ (hcov _)
  rw [pieces7, mem_down8] at hp
  obtain ⟨n, rfl⟩ := hp
  change S1x1x256.Idx at x
  obtain ⟨a0, a1, a2, rfl⟩ : ∃ a0 a1 a2, x = ix3 a0 a1 a2 := ⟨x 0, x 1, x 2, eq_ix3 x⟩
  obtain rfl : a0 = 0 := Subsingleton.elim _ _
  obtain rfl : a1 = 0 := Subsingleton.elim _ _
  refine (os_apply (sums_eq i arg1 harg1 arg2 harg2 arg3 harg3 arg4 harg4 arg5 harg5 arg6 harg6 arg10 arg11 arg12 x0 x1 x2 x3 x4 x5 H hS n a2)).trans ?_
  show outScale I h (batch n.1) (posOf n a2) = outScale I h _ _
  congr 1
  · exact Fin.ext ((batch_val n).trans (by show n.1 / 2 = n.1 / 2 + 1 * 0; omega))
  · exact Fin.ext (by show 256 * (n.1 % 2) + a2.1 = 256 * (n.1 % 2) + 1 * a2.1; omega)

theorem out8 (b : Fin 4) (j : Fin 512) (p : Fin 256) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 (ix4 b 0 j p)
      = outByte I b h j p := by
  have hcov := cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5
  unfold out0_A_8
  rw [View.read_writes_eq_canon _ _ _ hcov]
  refine View.canon_apply_of_pieces (fun y : S4x1x512x256.Idx => outByte I (y 0) h (y 2) (y 3)) _ (fun p hp x => ?_) _ (hcov _)
  rw [pieces8, mem_down8] at hp
  obtain ⟨n, rfl⟩ := hp
  change S1x1x256x256.Idx at x
  obtain ⟨a0, a1, a2, a3, rfl⟩ : ∃ a0 a1 a2 a3, x = ix4 a0 a1 a2 a3 := ⟨x 0, x 1, x 2, x 3, eq_ix4 x⟩
  obtain rfl : a0 = 0 := Subsingleton.elim _ _
  obtain rfl : a1 = 0 := Subsingleton.elim _ _
  refine (pay183_apply _ a2 a3).trans ?_
  rw [ldC_eq, cTile_eq (scores_eq i arg1 harg1 arg2 harg2 arg4 harg4 arg5 harg5 x0 x1 x2 x3 x4 x5 H hS n a2) (fits hS _ _ _) a3]
  refine (ker_byte _ (codeOf_le _) _ (codeOf_le _)).trans ?_
  show outByte I (batch n.1) h (posOf n a2) a3 = outByte I _ h _ _
  congr 1
  · exact Fin.ext ((batch_val n).trans (by show n.1 / 2 = n.1 / 2 + 1 * 0; omega))
  · exact Fin.ext (by show 256 * (n.1 % 2) + a2.1 = 256 * (n.1 % 2) + 1 * a2.1; omega)
  · exact Fin.ext (by show a3.1 = 0 + 1 * a3.1; omega)

end Point

end Cert.KernelIdeal.Tile
-- ==== Proof.Launch.lean ====
/-
  The launch of the kernel: each grid point's blocks are a head of the arguments, its output blocks tile the result arrays, so the three
  result arrays end holding the results of Attn.
-/
module

public import proofs.«01_k».proof.Proof.Point
public import proofs.«01_k».proof.Proof.Gen.KernelIdeal.Value

@[expose] public section

set_option synthInstance.maxSize 4096
set_option maxRecDepth 16384

noncomputable section

namespace Cert.KernelIdeal.Launch

open Idealize.ShloMosaic Idealize.ShloMosaic.ValueIdx Idealize.ShloMosaic.TcCoe Idealize.SL.Sem Cert.KernelIdeal Cert.KernelIdeal.Gen
  Cert.KernelIdeal.Value Cert.KernelIdeal.Tile Cert.LogAttn

variable (m : (ℓ : Loc nD τ sig) → Buf (Elt Ideal) ℓ) (ρ : Dev nD → PrngReg)

/-- The arguments of a launch. -/
def inOf (a0 : Vec Ideal S4x512x20x64 .i8) (a1 : Vec Ideal S4x512x20 .f32) (a2 : Vec Ideal S4x512x20x64 .i8) (a3 : Vec Ideal S4x20 .f32)
    (a4 : Vec Ideal S4x512x20x64 .i8) (a5 : Vec Ideal S4x20x64 .f32) : In where
  q b i h d := a0 (ix4 b i h d)
  k b i h d := a2 (ix4 b i h d)
  v b i h d := a4 (ix4 b i h d)
  qs b i h := a1 (ix3 b i h)
  ks b h := a3 (ix2 b h)
  vs b h d := a5 (ix3 b h d)

def argsOf (c : Dev nD) : In := inOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

/-- The head of a grid point. -/
def headOf (t : Fin cfg0.N) : Fin 20 := ⟨t.val, t.isLt⟩

theorem coord_eq : ∀ t : Fin cfg0.N, (grid0.coords t 0).val = t.val :=
  (by decide +kernel : ∀ t : Fin grid0.N, (grid0.coords t 0).val = t.val)

theorem idx0 : ∀ t : Fin grid0.N, win0_0.index t 0 = 0 ∧ win0_0.index t 1 = t.val ∧ win0_0.index t 2 = 0 ∧ win0_0.index t 3 = 0 := by decide +kernel
theorem idx1 : ∀ t : Fin grid0.N, win0_1.index t 0 = 0 ∧ win0_1.index t 1 = t.val ∧ win0_1.index t 2 = 0 ∧ win0_1.index t 3 = 0 := by decide +kernel
theorem idx2 : ∀ t : Fin grid0.N, win0_2.index t 0 = 0 ∧ win0_2.index t 1 = t.val ∧ win0_2.index t 2 = 0 ∧ win0_2.index t 3 = 0 := by decide +kernel
theorem idx3 : ∀ t : Fin grid0.N, win0_3.index t 0 = t.val ∧ win0_3.index t 1 = 0 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 ∧ win0_5.index t 2 = 0 := by decide +kernel
theorem idx6 : ∀ t : Fin grid0.N, win0_6.index t 0 = 0 ∧ win0_6.index t 1 = t.val ∧ win0_6.index t 2 = 0 ∧ win0_6.index t 3 = 0 := by decide +kernel
theorem idx7 : ∀ t : Fin grid0.N, win0_7.index t 0 = t.val ∧ win0_7.index t 1 = 0 ∧ win0_7.index t 2 = 0 := by decide +kernel
theorem idx8 : ∀ t : Fin grid0.N, win0_8.index t 0 = 0 ∧ win0_8.index t 1 = t.val ∧ win0_8.index t 2 = 0 ∧ win0_8.index t 3 = 0 := by decide +kernel

/-! ## Where a block's element sits -/

theorem emb0 (t : Fin cfg0.N) (b : Fin 4) (d : Fin 64) (j : Fin 512) : ((cfg0.win 0).blk t).view.emb (ix4 b (0 : Fin 1) d j) = ix4 b (headOf t) d j := by
  obtain ⟨e0, e1, e2, e3⟩ := idx0 t
  funext a; apply Fin.ext
  match a with
  | ⟨0, _⟩ => show win0_0.index t 0 * 4 + 1 * b.val = b.val; omega
  | ⟨1, _⟩ => show win0_0.index t 1 * 1 + 1 * 0 = t.val; omega
  | ⟨2, _⟩ => show win0_0.index t 2 * 64 + 1 * d.val = d.val; omega
  | ⟨3, _⟩ => show win0_0.index t 3 * 512 + 1 * j.val = j.val; omega
theorem emb1 (t : Fin cfg0.N) (b : Fin 4) (d : Fin 64) (j : Fin 512) : ((cfg0.win 1).blk t).view.emb (ix4 b (0 : Fin 1) d j) = ix4 b (headOf t) d j := by
  obtain ⟨e0, e1, e2, e3⟩ := idx1 t
  funext a; apply Fin.ext
  match a with
  | ⟨0, _⟩ => show win0_1.index t 0 * 4 + 1 * b.val = b.val; omega
  | ⟨1, _⟩ => show win0_1.index t 1 * 1 + 1 * 0 = t.val; omega
  | ⟨2, _⟩ => show win0_1.index t 2 * 64 + 1 * d.val = d.val; omega
  | ⟨3, _⟩ => show win0_1.index t 3 * 512 + 1 * j.val = j.val; omega
theorem emb2 (t : Fin cfg0.N) (b : Fin 4) (d : Fin 64) (j : Fin 512) : ((cfg0.win 2).blk t).view.emb (ix4 b (0 : Fin 1) d j) = ix4 b (headOf t) d j := by
  obtain ⟨e0, e1, e2, e3⟩ := idx2 t
  funext a; apply Fin.ext
  match a with
  | ⟨0, _⟩ => show win0_2.index t 0 * 4 + 1 * b.val = b.val; omega
  | ⟨1, _⟩ => show win0_2.index t 1 * 1 + 1 * 0 = t.val; omega
  | ⟨2, _⟩ => show win0_2.index t 2 * 64 + 1 * d.val = d.val; omega
  | ⟨3, _⟩ => show win0_2.index t 3 * 512 + 1 * j.val = j.val; omega
theorem emb3 (t : Fin cfg0.N) (b : Fin 4) (j : Fin 512) : ((cfg0.win 3).blk t).view.emb (ix3 (0 : Fin 1) b j) = ix3 (headOf t) b j := by
  obtain ⟨e0, e1, e2⟩ := idx3 t
  funext a; apply Fin.ext
  match a with
  | ⟨0, _⟩ => show win0_3.index t 0 * 1 + 1 * 0 = t.val; omega
  | ⟨1, _⟩ => show win0_3.index t 1 * 4 + 1 * b.val = b.val; omega
  | ⟨2, _⟩ => show win0_3.index t 2 * 512 + 1 * j.val = j.val; omega
theorem emb4 (t : Fin cfg0.N) (b : Fin 4) (h : Fin 20) : ((cfg0.win 4).blk t).view.emb (ix2 b h) = ix2 b h := by
  obtain ⟨e0, e1⟩ := idx4 t
  funext a; apply Fin.ext
  match a with
  | ⟨0, _⟩ => show win0_4.index t 0 * 4 + 1 * b.val = b.val; omega
  | ⟨1, _⟩ => show win0_4.index t 1 * 20 + 1 * h.val = h.val; omega
theorem emb5 (t : Fin cfg0.N) (b : Fin 4) (d : Fin 64) : ((cfg0.win 5).blk t).view.emb (ix3 (0 : Fin 1) b d) = ix3 (headOf t) b d := by
  obtain ⟨e0, e1, e2⟩ := idx5 t
  funext a; apply Fin.ext
  match a with
  | ⟨0, _⟩ => show win0_5.index t 0 * 1 + 1 * 0 = t.val; omega
  | ⟨1, _⟩ => show win0_5.index t 1 * 4 + 1 * b.val = b.val; omega
  | ⟨2, _⟩ => show win0_5.index t 2 * 64 + 1 * d.val = d.val; omega
theorem emb6 (t : Fin cfg0.N) (b : Fin 4) (d : Fin 64) (j : Fin 512) : ((cfg0.win 6).blk t).view.emb (ix4 b (0 : Fin 1) d j) = ix4 b (headOf t) d j := by
  obtain ⟨e0, e1, e2, e3⟩ := idx6 t
  funext a; apply Fin.ext
  match a with
  | ⟨0, _⟩ => show win0_6.index t 0 * 4 + 1 * b.val = b.val; omega
  | ⟨1, _⟩ => show win0_6.index t 1 * 1 + 1 * 0 = t.val; omega
  | ⟨2, _⟩ => show win0_6.index t 2 * 64 + 1 * d.val = d.val; omega
  | ⟨3, _⟩ => show win0_6.index t 3 * 512 + 1 * j.val = j.val; omega
theorem emb7 (t : Fin cfg0.N) (b : Fin 4) (j : Fin 512) : ((cfg0.win 7).blk t).view.emb (ix3 (0 : Fin 1) b j) = ix3 (headOf t) b j := by
  obtain ⟨e0, e1, e2⟩ := idx7 t
  funext a; apply Fin.ext
  match a with
  | ⟨0, _⟩ => show win0_7.index t 0 * 1 + 1 * 0 = t.val; omega
  | ⟨1, _⟩ => show win0_7.index t 1 * 4 + 1 * b.val = b.val; omega
  | ⟨2, _⟩ => show win0_7.index t 2 * 512 + 1 * j.val = j.val; omega
theorem emb8 (t : Fin cfg0.N) (b : Fin 4) (j : Fin 512) (p : Fin 256) : ((cfg0.win 8).blk t).view.emb (ix4 b (0 : Fin 1) j p) = ix4 b (headOf t) j p := by
  obtain ⟨e0, e1, e2, e3⟩ := idx8 t
  funext a; apply Fin.ext
  match a with
  | ⟨0, _⟩ => show win0_8.index t 0 * 4 + 1 * b.val = b.val; omega
  | ⟨1, _⟩ => show win0_8.index t 1 * 1 + 1 * 0 = t.val; omega
  | ⟨2, _⟩ => show win0_8.index t 2 * 512 + 1 * j.val = j.val; omega
  | ⟨3, _⟩ => show win0_8.index t 3 * 256 + 1 * p.val = p.val; omega

/-! ## The arrays the windows read -/

theorem V0 (c : Dev nD) : V m c main_v0 = transpose S4x20x64x512 [0, 2, 3, 1] (m ((c : Thread nD τ).loc main_arg0) : Vec Ideal S4x512x20x64 .i8) transposes_S4x512x20x64_S4x20x64x512_0_2_3_1 := rfl
theorem V1 (c : Dev nD) : V m c main_v1 = transpose S4x20x64x512 [0, 2, 3, 1] (m ((c : Thread nD τ).loc main_arg2) : Vec Ideal S4x512x20x64 .i8) transposes_S4x512x20x64_S4x20x64x512_0_2_3_1 := rfl
theorem V2 (c : Dev nD) : V m c main_v2 = transpose S4x20x64x512 [0, 2, 3, 1] (m ((c : Thread nD τ).loc main_arg4) : Vec Ideal S4x512x20x64 .i8) transposes_S4x512x20x64_S4x20x64x512_0_2_3_1 := rfl
theorem V3 (c : Dev nD) : V m c main_v3 = transpose S20x4x512 [2, 0, 1] (m ((c : Thread nD τ).loc main_arg1) : Vec Ideal S4x512x20 .f32) transposes_S4x512x20_S20x4x512_2_0_1 := rfl
theorem V4 (c : Dev nD) : V m c main_v4 = transpose S20x4x64 [1, 0, 2] (m ((c : Thread nD τ).loc main_arg5) : Vec Ideal S4x20x64 .f32) transposes_S4x20x64_S20x4x64_1_0_2 := rfl

theorem tr4 {α : Type} (x : S4x512x20x64.Idx → α) (b : Fin 4) (h : Fin 20) (d : Fin 64) (j : Fin 512) :
    transpose S4x20x64x512 [0, 2, 3, 1] x transposes_S4x512x20x64_S4x20x64x512_0_2_3_1 (ix4 b h d j) = x (ix4 b j h d) := by
  apply transpose_apply
  intro a
  match a with
  | ⟨0, _⟩ => rfl
  | ⟨1, _⟩ => rfl
  | ⟨2, _⟩ => rfl
  | ⟨3, _⟩ => rfl
theorem tr3 {α : Type} (x : S4x512x20.Idx → α) (b : Fin 4) (h : Fin 20) (j : Fin 512) :
    transpose S20x4x512 [2, 0, 1] x transposes_S4x512x20_S20x4x512_2_0_1 (ix3 h b j) = x (ix3 b j h) := by
  apply transpose_apply
  intro a
  match a with
  | ⟨0, _⟩ => rfl
  | ⟨1, _⟩ => rfl
  | ⟨2, _⟩ => rfl
theorem tr5 {α : Type} (x : S4x20x64.Idx → α) (b : Fin 4) (h : Fin 20) (d : Fin 64) :
    transpose S20x4x64 [1, 0, 2] x transposes_S4x20x64_S20x4x64_1_0_2 (ix3 h b d) = x (ix3 b h d) := by
  apply transpose_apply
  intro a
  match a with
  | ⟨0, _⟩ => rfl
  | ⟨1, _⟩ => rfl
  | ⟨2, _⟩ => rfl

/-- A grid point's blocks are its head of the arguments. -/
theorem holds (c : Dev nD) (t : Fin cfg0.N) : Holds (argsOf m c) (headOf t) (grid0.coords t) (iblk m c 0 t) (iblk m c 1 t) (iblk m c 2 t)
    (iblk m c 3 t) (iblk m c 4 t) (iblk m c 5 t) where
  head := coord_eq t
  q b d j := by
    show V m c main_v0 (((cfg0.win 0).blk t).view.emb (ix4 b (0 : Fin 1) d j)) = _
    rw [emb0, V0, tr4]; rfl
  k b d j := by
    show V m c main_v1 (((cfg0.win 1).blk t).view.emb (ix4 b (0 : Fin 1) d j)) = _
    rw [emb1, V1, tr4]; rfl
  v b d j := by
    show V m c main_v2 (((cfg0.win 2).blk t).view.emb (ix4 b (0 : Fin 1) d j)) = _
    rw [emb2, V2, tr4]; rfl
  qs b j := by
    show V m c main_v3 (((cfg0.win 3).blk t).view.emb (ix3 (0 : Fin 1) b j)) = _
    rw [emb3, V3, tr3]; rfl
  ks b := by
    show V m c main_arg3 (((cfg0.win 4).blk t).view.emb (ix2 b (headOf t))) = _
    rw [emb4, V_main_arg3]; rfl
  vs b d := by
    show V m c main_v4 (((cfg0.win 5).blk t).view.emb (ix3 (0 : Fin 1) b d)) = _
    rw [emb5, V4, tr5]; rfl

/-! ## The result arrays -/

def G6 (I : In) : S4x20x64x512.Idx → BitVec 8 := fun y => outCode I (y 0) (y 1) (y 2) (y 3)
def G7 (I : In) : S20x4x512.Idx → EReal := fun y => outScale I (y 0) (y 1) (y 2)
def G8 (I : In) : S4x20x512x256.Idx → BitVec 8 := fun y => outByte I (y 0) (y 1) (y 2) (y 3)

variable {m}

/-! A block is written back whole, and read from its place in the array. -/

theorem cut6 (g : grid0.Coords) (x : Vec Ideal S4x1x64x512 .i8) (y : S4x1x64x512.Idx) : (cfg0.win 6).cut g x y = x y := rfl
theorem read6 (t : Fin cfg0.N) (x : Vec Ideal S4x20x64x512 .i8) (y : S4x1x64x512.Idx) : ((cfg0.win 6).blk t).view.read (Elt Ideal) x y = x (((cfg0.win 6).blk t).view.emb y) := rfl
theorem cut7 (g : grid0.Coords) (x : Vec Ideal S1x4x512 .f32) (y : S1x4x512.Idx) : (cfg0.win 7).cut g x y = x y := rfl
theorem read7 (t : Fin cfg0.N) (x : Vec Ideal S20x4x512 .f32) (y : S1x4x512.Idx) : ((cfg0.win 7).blk t).view.read (Elt Ideal) x y = x (((cfg0.win 7).blk t).view.emb y) := rfl
theorem cut8 (g : grid0.Coords) (x : Vec Ideal S4x1x512x256 .i8) (y : S4x1x512x256.Idx) : (cfg0.win 8).cut g x y = x y := rfl
theorem read8 (t : Fin cfg0.N) (x : Vec Ideal S4x20x512x256 .i8) (y : S4x1x512x256.Idx) : ((cfg0.win 8).blk t).view.read (Elt Ideal) x y = x (((cfg0.win 8).blk t).view.emb y) := rfl

theorem final6 (c : Dev nD) (hS : Small (argsOf m c)) : (dats m 0 c).arrAt 6 cfg0.N = G6 (argsOf m c) := by
  refine (dats m 0 c).arrAt_eq_of_cover 6 (G6 (argsOf m c)) (fun t _ => ?_) (fun y => ?_)
  · rw [flushed6_A]
    funext j
    change S4x1x64x512.Idx at j
    obtain ⟨a0, a1, a2, a3, rfl⟩ : ∃ a0 a1 a2 a3, j = ix4 a0 a1 a2 a3 := ⟨j 0, j 1, j 2, j 3, eq_ix4 j⟩
    obtain rfl : a1 = 0 := Subsingleton.elim _ _
    refine (cut6 _ _ (ix4 a0 (0 : Fin 1) a2 a3)).trans
      ((out6 c (grid0.coords t) _ _ _ _ _ _ _ _ _ _ _ _ _ _ _ _ _ _ _ _ _ _ _ _ _ _ _ _ _ _ _ _ (holds m c t) hS a0 a2 a3).trans ?_)
    refine Eq.trans ?_ (read6 t (G6 (argsOf m c)) (ix4 a0 (0 : Fin 1) a2 a3)).symm
    rw [emb6]
    rfl
  · change S4x20x64x512.Idx at y
    obtain ⟨a0, a1, a2, a3, rfl⟩ : ∃ (a0 : Fin 4) (a1 : Fin 20) (a2 : Fin 64) (a3 : Fin 512), y = ix4 a0 a1 a2 a3 := ⟨y 0, y 1, y 2, y 3, eq_ix4 y⟩
    refine ⟨⟨a1.val, a1.isLt⟩, flush0_6 _, ?_⟩
    have h := ((cfg0.win 6).blk (⟨a1.val, a1.isLt⟩ : Fin cfg0.N)).view.emb_mem_set (ix4 a0 (0 : Fin 1) a2 a3)
    rw [emb6] at h
    exact h

theorem final7 (c : Dev nD) (hS : Small (argsOf m c)) : (dats m 0 c).arrAt 7 cfg0.N = G7 (argsOf m c) := by
  refine (dats m 0 c).arrAt_eq_of_cover 7 (G7 (argsOf m c)) (fun t _ => ?_) (fun y => ?_)
  · rw [flushed7_A]
    funext j
    change S1x4x512.Idx at j
    obtain ⟨a0, a1, a2, rfl⟩ : ∃ a0 a1 a2, j = ix3 a0 a1 a2 := ⟨j 0, j 1, j 2, eq_ix3 j⟩
    obtain rfl : a0 = 0 := Subsingleton.elim _ _
    refine (cut7 _ _ (ix3 (0 : Fin 1) a1 a2)).trans
      ((out7 c (grid0.coords t) _ _ _ _ _ _ _ _ _ _ _ _ _ _ _ _ _ _ _ _ _ _ _ _ _ _ _ _ _ _ _ _ (holds m c t) hS a1 a2).trans ?_)
    refine Eq.trans ?_ (read7 t (G7 (argsOf m c)) (ix3 (0 : Fin 1) a1 a2)).symm
    rw [emb7]
    rfl
  · change S20x4x512.Idx at y
    obtain ⟨a0, a1, a2, rfl⟩ : ∃ (a0 : Fin 20) (a1 : Fin 4) (a2 : Fin 512), y = ix3 a0 a1 a2 := ⟨y 0, y 1, y 2, eq_ix3 y⟩
    refine ⟨⟨a0.val, a0.isLt⟩, flush0_7 _, ?_⟩
    have h := ((cfg0.win 7).blk (⟨a0.val, a0.isLt⟩ : Fin cfg0.N)).view.emb_mem_set (ix3 (0 : Fin 1) a1 a2)
    rw [emb7] at h
    exact h

theorem final8 (c : Dev nD) (hS : Small (argsOf m c)) : (dats m 0 c).arrAt 8 cfg0.N = G8 (argsOf m c) := by
  refine (dats m 0 c).arrAt_eq_of_cover 8 (G8 (argsOf m c)) (fun t _ => ?_) (fun y => ?_)
  · rw [flushed8_A]
    funext j
    change S4x1x512x256.Idx at j
    obtain ⟨a0, a1, a2, a3, rfl⟩ : ∃ a0 a1 a2 a3, j = ix4 a0 a1 a2 a3 := ⟨j 0, j 1, j 2, j 3, eq_ix4 j⟩
    obtain rfl : a1 = 0 := Subsingleton.elim _ _
    refine (cut8 _ _ (ix4 a0 (0 : Fin 1) a2 a3)).trans
      ((out8 c (grid0.coords t) _ _ _ _ _ _ _ _ _ _ _ _ _ _ _ _ _ _ _ _ _ _ _ _ _ _ _ _ _ _ _ _ (holds m c t) hS a0 a2 a3).trans ?_)
    refine Eq.trans ?_ (read8 t (G8 (argsOf m c)) (ix4 a0 (0 : Fin 1) a2 a3)).symm
    rw [emb8]
    rfl
  · change S4x20x512x256.Idx at y
    obtain ⟨a0, a1, a2, a3, rfl⟩ : ∃ (a0 : Fin 4) (a1 : Fin 20) (a2 : Fin 512) (a3 : Fin 256), y = ix4 a0 a1 a2 a3 := ⟨y 0, y 1, y 2, y 3, eq_ix4 y⟩
    refine ⟨⟨a1.val, a1.isLt⟩, flush0_8 _, ?_⟩
    have h := ((cfg0.win 8).blk (⟨a1.val, a1.isLt⟩ : Fin cfg0.N)).view.emb_mem_set (ix4 a0 (0 : Fin 1) a2 a3)
    rw [emb8] at h
    exact h

end Cert.KernelIdeal.Launch
-- ==== Proof.RefVal.lean ====
/-
  The reference's values: stage by stage, at an index, they are the results of Attn.
-/
module

public import proofs.«01_k».proof.Proof.Attn
public import proofs.«01_k».proof.Proof.RefCode
public import proofs.«01_k».proof.Proof.Gen.ReferenceIdeal.Read

@[expose] public section

set_option maxRecDepth 16384

noncomputable section

namespace Cert.ReferenceIdeal.Read

open Idealize.ShloMosaic Idealize.ShloMosaic.ValueIdx Cert.ReferenceIdeal Cert.ReferenceIdeal.Gen Cert.LogAttn

/-! ### Folds of words -/

theorem toInt_maxsi (x y : BitVec 32) : (IntOp.maxsi x y).toInt = max x.toInt y.toInt := by
  unfold IntOp.maxsi
  rw [BitVec.slt_eq_decide]
  by_cases h : y.toInt < x.toInt
  · rw [if_pos (decide_eq_true h), max_eq_left h.le]
  · rw [if_neg (by simpa using h), max_eq_right (not_lt.1 h)]

/-- The largest of a row's rounded scores, as words. -/
theorem fold_max (t : Fin 512 → ℝ) (ht : Fits t) :
    (Finset.univ : Finset (Fin 512)).fold IntOp.maxsi 2147483648#32 (fun j => BitVec.ofInt 32 (nI t j)) = BitVec.ofInt 32 (mxI t) := by
  have hm := mx_bound ht
  apply BitVec.eq_of_toInt_eq
  rw [← Finset.fold_hom (op' := max) toInt_maxsi, toInt_ofInt (by omega) (by omega)]
  have e : ∀ j, (BitVec.ofInt 32 (nI t j)).toInt = nI t j := fun j => by
    have := nI_bound ht j
    exact toInt_ofInt (by omega) (by omega)
  have e0 : (2147483648#32 : BitVec 32).toInt = -2147483648 := by decide
  rw [e0]
  refine le_antisymm ((Finset.fold_max_le _).2 ⟨by omega, fun j _ => (e j).le.trans (nI_le t j)⟩) ?_
  obtain ⟨j, hj⟩ := mx_attained t
  exact (Finset.le_fold_max _).2 (Or.inr ⟨j, Finset.mem_univ _, (hj.trans (e j).symm).le⟩)

/-- A sum of words is the word of the sum. -/
theorem fold_add (f : Fin 512 → ℕ) :
    (Finset.univ : Finset (Fin 512)).fold IntOp.addi 0#32 (fun j => BitVec.ofNat 32 (f j)) = BitVec.ofNat 32 (∑ j, f j) := by
  have hm : ∀ x y : ℕ, BitVec.ofNat 32 (x + y) = IntOp.addi (BitVec.ofNat 32 x) (BitVec.ofNat 32 y) := fun x y => BitVec.ofNat_add x y
  have h := Finset.fold_hom (s := (Finset.univ : Finset (Fin 512))) (op := (· + ·)) (op' := IntOp.addi) (m := BitVec.ofNat 32) (b := 0) (f := f) hm
  rw [Finset.sum_eq_fold]
  exact h

theorem word_dist (t : Fin 512 → ℝ) (ht : Fits t) (j : Fin 512) :
    -(IntOp.subi (BitVec.ofInt 32 (nI t j)) (BitVec.ofInt 32 (mxI t))) = BitVec.ofNat 32 (distN t j) := by
  have h1 := nI_bound ht j
  have h2 := mx_bound ht
  have h3 := distN_cast t j
  have h4 := distN_le ht j
  unfold IntOp.subi
  apply BitVec.eq_of_toInt_eq
  rw [toInt_ofNat (by omega), BitVec.toInt_neg, BitVec.toInt_sub, toInt_ofInt (by omega) (by omega), toInt_ofInt (by omega) (by omega),
    Int.bmod_def, Int.bmod_def]
  omega

/-- A code widened to 32 bits and converted. -/
theorem widen_real (x : BitVec 8) : FloatOps.sitofp (F := Ideal) .f32 (x.signExtend 32) = val8 x := by
  show (((x.signExtend 32).toInt : ℝ) : EReal) = _
  rw [BitVec.toInt_signExtend_of_le (by norm_num)]
  rfl

/-- Rounding to bfloat16 is the identity on the extended reals. -/
theorem narrow_id (x : Ideal .f32) : FloatOps.truncf (F := Ideal) .bf16 bitsLt_bf16_f32 x = x := rfl

/-! ### Reduced indices -/

theorem red_keys : S4x20x512x512.Reduces [3] S4x20x512 := by decide
theorem red_chan : S4x512x20x64.Reduces [3] S4x512x20 := by decide

theorem lift_keys (b : Fin 4) (h : Fin 20) (i j : Fin 512) : red_keys.lift (ix3 b h i) j = ix4 b h i j := by
  funext d
  match d with
  | ⟨0, _⟩ => exact Fin.ext rfl
  | ⟨1, _⟩ => exact Fin.ext rfl
  | ⟨2, _⟩ => exact Fin.ext rfl
  | ⟨3, _⟩ => exact Fin.ext rfl

theorem lift_chan (b : Fin 4) (i : Fin 512) (h : Fin 20) (ch : Fin 64) : red_chan.lift (ix3 b i h) ch = ix4 b i h ch := by
  funext d
  match d with
  | ⟨0, _⟩ => exact Fin.ext rfl
  | ⟨1, _⟩ => exact Fin.ext rfl
  | ⟨2, _⟩ => exact Fin.ext rfl
  | ⟨3, _⟩ => exact Fin.ext rfl

/-! ### The stages -/

variable (x0 : (⟨S4x512x20x64, .i8⟩ : BufTy).Contents (Elt Ideal)) (x1 : (⟨S4x512x20, .f32⟩ : BufTy).Contents (Elt Ideal))
  (x2 : (⟨S4x512x20x64, .i8⟩ : BufTy).Contents (Elt Ideal)) (x3 : (⟨S4x20, .f32⟩ : BufTy).Contents (Elt Ideal))
  (x4 : (⟨S4x512x20x64, .i8⟩ : BufTy).Contents (Elt Ideal)) (x5 : (⟨S4x20x64, .f32⟩ : BufTy).Contents (Elt Ideal))

/-- The arguments. -/
def refIn : In where
  q b i h d := x0 (ix4 b i h d)
  k b i h d := x2 (ix4 b i h d)
  v b i h d := x4 (ix4 b i h d)
  qs b i h := x1 (ix3 b i h)
  ks b h := x3 (ix2 b h)
  vs b h d := x5 (ix3 b h d)

theorem score_at (b : Fin 4) (h : Fin 20) (i j : Fin 512) :
    val_main_v18 (F := Ideal) x0 x1 x2 x3 (ix4 b h i j) = score (refIn x0 x1 x2 x3 x4 x5) b h i j := by
  rw [val_main_v18_apply, val_main_v9_apply, val_main_v17_apply, val_main_v16_apply, val_main_v15_apply, val_main_v14_apply,
    val_main_v12_apply, val_main_v11_apply, val_main_v10_apply, val_main_v13_apply, val_main_cst_apply]
  have e1 : idx_main_v15 (idx_main_v16 (idx_main_v17 (ix4 b h i j))) = ix3 b i h := eq_ix3 _
  have e2 : idx_main_v10 (idx_main_v11 (idx_main_v15 (idx_main_v16 (idx_main_v17 (ix4 b h i j))))) = ix2 b h := eq_ix2 _
  rw [e2, e1]
  have q1 : ∀ k : Fin 64, val_main_v2 (F := Ideal) x0 (lidx_main_v9 (ix4 b h i j) k) = val8 (x0 (ix4 b i h k)) := fun k => by
    have e : lidx_main_v9 (ix4 b h i j) k = ix4 b i h k := eq_ix4 _
    rw [val_main_v2_apply, val_main_v1_apply, val_main_v0_apply, e, widen_real]
    exact narrow_id _
  have q2 : ∀ k : Fin 64, val_main_v5 (F := Ideal) x2 (ridx_main_v9 (ix4 b h i j) k) = val8 (x2 (ix4 b j h k)) := fun k => by
    have e : ridx_main_v9 (ix4 b h i j) k = ix4 b j h k := eq_ix4 _
    rw [val_main_v5_apply, val_main_v4_apply, val_main_v3_apply, e, widen_real]
    exact narrow_id _
  exact congrArg (· * ((x1 (ix3 b i h) * x3 (ix2 b h)) * Ideal.ofBits .f32 0x40800000#32))
    (Finset.sum_congr rfl fun k _ => congrArg₂ (· * ·) (q1 k) (q2 k))

variable {x0 x1 x2 x3 x4 x5}

theorem rounded_at (hS : Small (refIn x0 x1 x2 x3 x4 x5)) (b : Fin 4) (h : Fin 20) (i j : Fin 512) :
    val_main_v20 (F := Ideal) x0 x1 x2 x3 (ix4 b h i j) = BitVec.ofInt 32 (nI (tOf (refIn x0 x1 x2 x3 x4 x5) b h i) j) := by
  rw [val_main_v20_apply, val_main_v19_apply, score_at x0 x1 x2 x3 x4 x5, (score_real hS b h i j).1]
  have hb := nI_bound (fits hS b h i) j
  exact fptosi32_int (z := nI (tOf (refIn x0 x1 x2 x3 x4 x5) b h i) j) (by omega) (by omega)

theorem largest_at (hS : Small (refIn x0 x1 x2 x3 x4 x5)) (b : Fin 4) (h : Fin 20) (i : Fin 512) :
    val_main_v21 (F := Ideal) x0 x1 x2 x3 (ix3 b h i) = BitVec.ofInt 32 (mxI (tOf (refIn x0 x1 x2 x3 x4 x5) b h i)) := by
  refine (Host.reduce_eq_fold_single IntOp.maxsi (val_main_v20 (F := Ideal) x0 x1 x2 x3) (val_main_c (F := Ideal))
    reducesTo_S4x20x512x512_S4x20x512_d3 red_keys h_S_ (ix3 b h i)).trans ?_
  refine (congrArg (fun f : Fin 512 → BitVec 32 => (Finset.univ : Finset (Fin 512)).fold IntOp.maxsi 2147483648#32 f)
    (funext fun j => ?_)).trans (fold_max _ (fits hS b h i))
  exact (congrArg (val_main_v20 (F := Ideal) x0 x1 x2 x3) (lift_keys b h i j)).trans (rounded_at hS b h i j)

theorem dist_at (hS : Small (refIn x0 x1 x2 x3 x4 x5)) (b : Fin 4) (h : Fin 20) (i j : Fin 512) :
    val_main_v27 (F := Ideal) x0 x1 x2 x3 (ix4 b h i j)
      = IntOp.minsi (BitVec.ofNat 32 (distN (tOf (refIn x0 x1 x2 x3 x4 x5) b h i) j)) 286#32 := by
  have e : idx_main_v22 (idx_main_v23 (ix4 b h i j)) = ix3 b h i := eq_ix3 _
  rw [val_main_v27_apply, val_main_v26_apply, val_main_c_0_apply, val_main_v25_apply, val_main_v24_apply, val_main_v23_apply,
    val_main_v22_apply, e, rounded_at hS, largest_at hS, word_dist _ (fits hS b h i)]

theorem whole_at (i : S4x20x512x512.Idx) : val_main_v34 (F := Ideal) x0 x1 x2 x3 i = refZ (val_main_v27 (F := Ideal) x0 x1 x2 x3 i) := by
  rw [val_main_v34_apply, val_main_v33_apply, val_main_v32_apply, val_main_v31_apply, val_main_cst_2_apply, val_main_v30_apply,
    val_main_v29_apply, val_main_cst_1_apply, val_main_v28_apply]
  rfl

theorem exp_of (i : S4x20x512x512.Idx) : val_main_v45 (F := Ideal) x0 x1 x2 x3 i
    = refExp (val_main_v34 (F := Ideal) x0 x1 x2 x3 i) (val_main_v27 (F := Ideal) x0 x1 x2 x3 i) := by
  rw [val_main_v45_apply, val_main_v44_apply, val_main_v43_apply, val_main_c_6_apply, val_main_v42_apply, val_main_v41_apply,
    val_main_c_5_apply, val_main_v40_apply, val_main_v39_apply, val_main_v38_apply, val_main_c_4_apply, val_main_v37_apply,
    val_main_v36_apply, val_main_v35_apply, val_main_c_3_apply]
  rfl

theorem exp_at (hS : Small (refIn x0 x1 x2 x3 x4 x5)) (b : Fin 4) (h : Fin 20) (i j : Fin 512) :
    val_main_v45 (F := Ideal) x0 x1 x2 x3 (ix4 b h i j) = BitVec.ofNat 32 (eN (tOf (refIn x0 x1 x2 x3 x4 x5) b h i) j) := by
  have hd := distN_le (fits hS b h i) j
  rw [exp_of, whole_at, dist_at hS, refExp_nat (by omega)]
  rfl

theorem sum_at (hS : Small (refIn x0 x1 x2 x3 x4 x5)) (b : Fin 4) (h : Fin 20) (i : Fin 512) :
    val_main_v46 (F := Ideal) x0 x1 x2 x3 (ix3 b h i) = BitVec.ofNat 32 (sumN (tOf (refIn x0 x1 x2 x3 x4 x5) b h i)) := by
  refine (Host.reduce_eq_fold_single IntOp.addi (val_main_v45 (F := Ideal) x0 x1 x2 x3) (val_main_c_7 (F := Ideal))
    reducesTo_S4x20x512x512_S4x20x512_d3 red_keys h_S_ (ix3 b h i)).trans ?_
  refine (congrArg (fun f : Fin 512 → BitVec 32 => (Finset.univ : Finset (Fin 512)).fold IntOp.addi 0#32 f)
    (funext fun j => ?_)).trans (fold_add _)
  exact (congrArg (val_main_v45 (F := Ideal) x0 x1 x2 x3) (lift_keys b h i j)).trans (exp_at hS b h i j)

/-! ### The code of a weight -/

theorem num_of (i : S4x20x512x512.Idx) : val_main_v51 (F := Ideal) x0 x1 x2 x3 i
    = IntOp.addi (IntOp.muli 2#32 (val_main_v46 (F := Ideal) x0 x1 x2 x3 (idx_main_v47 (idx_main_v50 i)))) (val_main_v45 (F := Ideal) x0 x1 x2 x3 i) := by
  rw [val_main_v51_apply, val_main_v50_apply, val_main_v49_apply, val_main_v48_apply, val_main_c_8_apply, val_main_v47_apply]

theorem den_of (i : S4x20x512x512.Idx) : val_main_v55 (F := Ideal) x0 x1 x2 x3 i
    = IntOp.muli 2#32 (IntOp.maxsi (val_main_v45 (F := Ideal) x0 x1 x2 x3 i) 1#32) := by
  rw [val_main_v55_apply, val_main_v54_apply, val_main_c_10_apply, val_main_v53_apply, val_main_v52_apply, val_main_c_9_apply]

theorem quot_of (i : S4x20x512x512.Idx) : val_main_v61 (F := Ideal) x0 x1 x2 x3 i
    = refQuot (val_main_v51 (F := Ideal) x0 x1 x2 x3 i) (val_main_v55 (F := Ideal) x0 x1 x2 x3 i) := by
  rw [val_main_v61_apply, val_main_v60_apply, val_main_call1_v4_apply, val_main_call1_v3_apply, val_main_cst_12_apply,
    val_main_call1_v2_apply, val_main_call1_v1_apply, val_main_call1_v0_apply, val_main_cst_11_apply, val_main_v59_apply,
    val_main_v58_apply, val_main_v57_apply, val_main_v56_apply]
  rfl

theorem fix_of (i : S4x20x512x512.Idx) : val_main_v73 (F := Ideal) x0 x1 x2 x3 i
    = refFix (val_main_v61 (F := Ideal) x0 x1 x2 x3 i) (val_main_v51 (F := Ideal) x0 x1 x2 x3 i) (val_main_v55 (F := Ideal) x0 x1 x2 x3 i) := by
  rw [val_main_v73_apply, val_main_v72_apply, val_main_c_14_apply, val_main_v71_apply, val_main_v70_apply, val_main_v69_apply,
    val_main_v68_apply, val_main_v67_apply, val_main_v66_apply, val_main_c_13_apply, val_main_v65_apply, val_main_v64_apply,
    val_main_v63_apply, val_main_v62_apply]
  rfl

theorem log_of (i : S4x20x512x512.Idx) : val_main_v86 (F := Ideal) x0 x1 x2 x3 i = refLog (val_main_v73 (F := Ideal) x0 x1 x2 x3 i) := by
  rw [val_main_v86_apply, val_main_v85_apply, val_main_v84_apply, val_main_v83_apply, val_main_v82_apply, val_main_v81_apply,
    val_main_c_18_apply, val_main_v80_apply, val_main_v79_apply, val_main_c_17_apply, val_main_v78_apply, val_main_v77_apply,
    val_main_c_16_apply, val_main_v76_apply, val_main_v75_apply, val_main_c_15_apply, val_main_v74_apply]
  rfl

theorem code_of (i : S4x20x512x512.Idx) : val_main_v89 (F := Ideal) x0 x1 x2 x3 i
    = refCode (val_main_v45 (F := Ideal) x0 x1 x2 x3 i) (val_main_v46 (F := Ideal) x0 x1 x2 x3 (idx_main_v47 (idx_main_v50 i))) := by
  rw [val_main_v89_apply, val_main_v88_apply, val_main_v87_apply, val_main_c_19_apply, val_main_call2_v0_apply, val_main_c_20_apply,
    log_of, fix_of, quot_of, num_of, den_of]
  rfl

theorem code_at (hS : Small (refIn x0 x1 x2 x3 x4 x5)) (b : Fin 4) (h : Fin 20) (i j : Fin 512) :
    val_main_v89 (F := Ideal) x0 x1 x2 x3 (ix4 b h i j) = BitVec.ofNat 32 (codeOf (tOf (refIn x0 x1 x2 x3 x4 x5) b h i) j) := by
  have e : idx_main_v47 (idx_main_v50 (ix4 b h i j)) = ix3 b h i := eq_ix3 _
  rw [code_of, e, exp_at hS, sum_at hS, refCode_nat (eN_le_sum _ j) (sumN_le _)]
  rfl

/-! ### The third result: two codes to a byte -/

theorem pair_idx (b : Fin 4) (h : Fin 20) (i : Fin 512) (p : Fin 256) (s : Fin 2) :
    idx_main_v90 (ix5 b h i p s) = ix4 b h i (⟨2 * p.1 + s.1, by omega⟩ : Fin 512) := by
  have hb := b.isLt; have hh := h.isLt; have hi := i.isLt; have hp := p.isLt; have hs := s.isLt
  funext d
  match d with
  | ⟨0, _⟩ => exact Fin.ext (show ((((b.1 * 20 + h.1) * 512 + i.1) * 256 + p.1) * 2 + s.1) / 5242880 = b.1 by omega)
  | ⟨1, _⟩ => exact Fin.ext (show ((((b.1 * 20 + h.1) * 512 + i.1) * 256 + p.1) * 2 + s.1) / 262144 % 20 = h.1 by omega)
  | ⟨2, _⟩ => exact Fin.ext (show ((((b.1 * 20 + h.1) * 512 + i.1) * 256 + p.1) * 2 + s.1) / 512 % 512 = i.1 by omega)
  | ⟨3, _⟩ => exact Fin.ext (show ((((b.1 * 20 + h.1) * 512 + i.1) * 256 + p.1) * 2 + s.1) % 512 = 2 * p.1 + s.1 by omega)

theorem flat_idx (b : Fin 4) (h : Fin 20) (i : Fin 512) (p : Fin 256) :
    idx_main_v92 (ix4 b h i p) = ix5 b h i p (0 : Fin 1) := by
  have hb := b.isLt; have hh := h.isLt; have hi := i.isLt; have hp := p.isLt
  funext d
  match d with
  | ⟨0, _⟩ => exact Fin.ext (show (((b.1 * 20 + h.1) * 512 + i.1) * 256 + p.1) / 2621440 = b.1 by omega)
  | ⟨1, _⟩ => exact Fin.ext (show (((b.1 * 20 + h.1) * 512 + i.1) * 256 + p.1) / 131072 % 20 = h.1 by omega)
  | ⟨2, _⟩ => exact Fin.ext (show (((b.1 * 20 + h.1) * 512 + i.1) * 256 + p.1) / 256 % 512 = i.1 by omega)
  | ⟨3, _⟩ => exact Fin.ext (show (((b.1 * 20 + h.1) * 512 + i.1) * 256 + p.1) / 1 % 256 = p.1 by omega)
  | ⟨4, _⟩ => rfl

theorem byte_at (hS : Small (refIn x0 x1 x2 x3 x4 x5)) (b : Fin 4) (h : Fin 20) (i : Fin 512) (p : Fin 256) :
    val_main_v98 (F := Ideal) x0 x1 x2 x3 (ix4 b h i p) = outByte (refIn x0 x1 x2 x3 x4 x5) b h i p := by
  have e0 : idx_main_v91 (idx_main_v92 (ix4 b h i p)) = ix5 b h i p (0 : Fin 2) := by
    rw [flat_idx]; exact eq_ix5 _
  have e1 : idx_main_v93 (idx_main_v94 (ix4 b h i p)) = ix5 b h i p (1 : Fin 2) := by
    rw [show idx_main_v94 (ix4 b h i p) = ix5 b h i p (0 : Fin 1) from flat_idx b h i p]; exact eq_ix5 _
  rw [val_main_v98_apply, val_main_v97_apply, val_main_v96_apply, val_main_v95_apply, val_main_c_21_apply, val_main_v94_apply,
    val_main_v93_apply, val_main_v92_apply, val_main_v91_apply, e0, e1, val_main_v90_apply, val_main_v90_apply, pair_idx, pair_idx,
    code_at hS, code_at hS, ref_byte _ (codeOf_le _) _ (codeOf_le _)]
  rfl

/-! ### The weighted sum and its quantization -/

theorem weight_at (hS : Small (refIn x0 x1 x2 x3 x4 x5)) (b : Fin 4) (h : Fin 20) (i j : Fin 512) :
    val_main_v104 (F := Ideal) x0 x1 x2 x3 (ix4 b h i j) = wt (codeOf (tOf (refIn x0 x1 x2 x3 x4 x5) b h i) j) := by
  rw [val_main_v104_apply, val_main_v103_apply, val_main_v102_apply, val_main_v101_apply, val_main_c_23_apply, val_main_v100_apply, val_main_v99_apply,
    val_main_c_22_apply, code_at hS, wt_word _ (codeOf_le _)]
  rfl

theorem out_at (hS : Small (refIn x0 x1 x2 x3 x4 x5)) (b : Fin 4) (i : Fin 512) (h : Fin 20) (ch : Fin 64) :
    val_main_v109 (F := Ideal) x0 x1 x2 x3 x4 x5 (ix4 b i h ch) = yOf (refIn x0 x1 x2 x3 x4 x5) b h i ch := by
  have e1 : idx_main_v107 (idx_main_v108 (ix4 b i h ch)) = ix3 b h ch := eq_ix3 _
  have e2 : idx_main_v106 (ix4 b i h ch) = ix4 b h ch i := eq_ix4 _
  rw [val_main_v109_apply, val_main_v108_apply, val_main_v107_apply, e1, val_main_v106_apply, e2, val_main_v105_apply]
  refine congrArg (· * x5 (ix3 b h ch)) (Finset.sum_congr rfl fun j _ => congrArg₂ (· * ·) ?_ ?_)
  · have e : lidx_main_v105 (ix4 b h ch i) j = ix4 b j h ch := eq_ix4 _
    rw [val_main_v8_apply, val_main_v7_apply, val_main_v6_apply, e, widen_real]
    rfl
  · have e : ridx_main_v105 (ix4 b h ch i) j = ix4 b h i j := eq_ix4 _
    rw [e, weight_at hS]

theorem amax_at (hS : Small (refIn x0 x1 x2 x3 x4 x5)) (b : Fin 4) (i : Fin 512) (h : Fin 20) :
    val_main_v111 (F := Ideal) x0 x1 x2 x3 x4 x5 (ix3 b i h) = amaxE (yOf (refIn x0 x1 x2 x3 x4 x5) b h i) := by
  refine (Host.reduce_eq_fold_single (FloatOps.maximumf (F := Ideal) (φ := .f32)) (val_main_v110 (F := Ideal) x0 x1 x2 x3 x4 x5)
    (val_main_cst_24 (F := Ideal)) reducesTo_S4x512x20x64_S4x512x20_d3 red_chan h_S_ (ix3 b i h)).trans ?_
  refine congrArg (fun f : Fin 64 → EReal => (Finset.univ : Finset (Fin 64)).fold max (Ideal.ofBits .f32 0xFF800000#32) f)
    (funext fun ch => ?_)
  refine (congrArg (val_main_v110 (F := Ideal) x0 x1 x2 x3 x4 x5) (lift_chan b i h ch)).trans ?_
  exact congrArg (fun z : EReal => max z (-z)) (out_at hS b i h ch)

theorem scale_at (hS : Small (refIn x0 x1 x2 x3 x4 x5)) (b : Fin 4) (i : Fin 512) (h : Fin 20) :
    val_main_v117 (F := Ideal) x0 x1 x2 x3 x4 x5 (ix4 b i h (0 : Fin 1)) = scaleE (yOf (refIn x0 x1 x2 x3 x4 x5) b h i) := by
  have e : idx_main_v112 (ix4 b i h (0 : Fin 1)) = ix3 b i h := eq_ix3 _
  rw [val_main_v117_apply, val_main_v116_apply, val_main_v115_apply, val_main_cst_26_apply, val_main_v114_apply, val_main_v113_apply,
    val_main_cst_25_apply, val_main_call3_v0_apply, val_main_cst_27_apply, val_main_v112_apply, e, amax_at hS]
  rfl

theorem int_n127 : FloatOps.sitofp (F := Ideal) .f32 (4294967169#32 : BitVec 32) = Ideal.ofBits .f32 0xC2FE0000#32 := by
  rw [bits_n127]
  show (((4294967169#32 : BitVec 32).toInt : ℝ) : EReal) = _
  rw [show (4294967169#32 : BitVec 32).toInt = -127 by decide]
  norm_num

theorem int_127 : FloatOps.sitofp (F := Ideal) .f32 (127#32 : BitVec 32) = Ideal.ofBits .f32 0x42FE0000#32 := by
  rw [bits_127]
  show (((127#32 : BitVec 32).toInt : ℝ) : EReal) = _
  rw [show (127#32 : BitVec 32).toInt = 127 by decide]
  norm_num

theorem level_at (hS : Small (refIn x0 x1 x2 x3 x4 x5)) (b : Fin 4) (i : Fin 512) (h : Fin 20) (ch : Fin 64) :
    val_main_v123 (F := Ideal) x0 x1 x2 x3 x4 x5 (ix4 b i h ch) = outCode (refIn x0 x1 x2 x3 x4 x5) b h ch i := by
  have e : idx_main_v118 (ix4 b i h ch) = ix4 b i h (0 : Fin 1) := eq_ix4 _
  rw [val_main_v123_apply, val_main_v122_apply, val_main_v121_apply, val_main_call5_v4_apply, val_main_call5_v3_apply,
    val_main_c_29_apply, int_127, val_main_call5_v2_apply, val_main_call5_v1_apply, val_main_call5_v0_apply, val_main_c_28_apply,
    int_n127, val_main_v120_apply, val_main_v119_apply, val_main_v118_apply, e, out_at hS, scale_at hS]
  exact level_narrow _ _

/-! ### The three results -/

theorem res_codes (hS : Small (refIn x0 x1 x2 x3 x4 x5)) : val_main_v124 (F := Ideal) x0 x1 x2 x3 x4 x5
    = fun y : S4x20x64x512.Idx => outCode (refIn x0 x1 x2 x3 x4 x5) (y 0) (y 1) (y 2) (y 3) := by
  funext y
  rw [val_main_v124_apply, show idx_main_v124 y = ix4 (y 0) (y 3) (y 1) (y 2) from eq_ix4 _]
  exact level_at hS (y 0) (y 3) (y 1) (y 2)

theorem drop_idx (b : Fin 4) (i : Fin 512) (h : Fin 20) : idx_main_v125 (ix3 b i h) = ix4 b i h (0 : Fin 1) := by
  have hb := b.isLt; have hh := h.isLt; have hi := i.isLt
  funext d
  match d with
  | ⟨0, _⟩ => exact Fin.ext (show ((b.1 * 512 + i.1) * 20 + h.1) / 10240 = b.1 by omega)
  | ⟨1, _⟩ => exact Fin.ext (show ((b.1 * 512 + i.1) * 20 + h.1) / 20 % 512 = i.1 by omega)
  | ⟨2, _⟩ => exact Fin.ext (show ((b.1 * 512 + i.1) * 20 + h.1) / 1 % 20 = h.1 by omega)
  | ⟨3, _⟩ => rfl

theorem res_scales (hS : Small (refIn x0 x1 x2 x3 x4 x5)) : val_main_v126 (F := Ideal) x0 x1 x2 x3 x4 x5
    = fun y : S20x4x512.Idx => outScale (refIn x0 x1 x2 x3 x4 x5) (y 0) (y 1) (y 2) := by
  funext y
  rw [val_main_v126_apply, val_main_v125_apply]
  refine (congrArg (fun z => val_main_v117 (F := Ideal) x0 x1 x2 x3 x4 x5 (idx_main_v125 z))
    (show idx_main_v126 y = ix3 (y 1) (y 2) (y 0) from eq_ix3 _)).trans ?_
  exact (congrArg (val_main_v117 (F := Ideal) x0 x1 x2 x3 x4 x5) (drop_idx (y 1) (y 2) (y 0))).trans (scale_at hS (y 1) (y 2) (y 0))

theorem res_bytes (hS : Small (refIn x0 x1 x2 x3 x4 x5)) : val_main_v98 (F := Ideal) x0 x1 x2 x3
    = fun y : S4x20x512x256.Idx => outByte (refIn x0 x1 x2 x3 x4 x5) (y 0) (y 1) (y 2) (y 3) := by
  funext y
  exact (congrArg (val_main_v98 (F := Ideal) x0 x1 x2 x3) (eq_ix4 y)).trans (byte_at hS (y 0) (y 1) (y 2) (y 3))

end Cert.ReferenceIdeal.Read
-- ==== Proof.Values.lean ====
/-
  The algebraic claim: the kernel's launch and the reference end with the same three results.
-/
module

public import proofs.«01_k».proof.Defs
public import proofs.«01_k».proof.Proof.Launch
public import proofs.«01_k».proof.Proof.RefVal
public import proofs.«01_k».proof.Proof.Frames

@[expose] public section

set_option maxRecDepth 16384

noncomputable section

namespace Cert.Proof

open Idealize.ShloMosaic Idealize.ShloMosaic.ValueIdx Idealize.ShloMosaic.TcCoe Idealize.SL.Sem Cert.LogAttn

/-- The side conditions of the precondition's function. -/
theorem pre_facts : Cert.Pre_scores_fit.Facts := ⟨by decide, by decide, by decide⟩

theorem bits_255 : Ideal.ofBits .f32 0x437F0000#32 = ((255 : ℝ) : EReal) := by
  simp [Ideal.ofBits, Ideal.ieee]; rw [← EReal.coe_mul]; norm_num

section

open Cert.ReferenceIdeal Cert.ReferenceIdeal.Read

variable {x0 : (⟨S4x512x20x64, .i8⟩ : BufTy).Contents (Elt Ideal)} {x1 : (⟨S4x512x20, .f32⟩ : BufTy).Contents (Elt Ideal)}
  {x2 : (⟨S4x512x20x64, .i8⟩ : BufTy).Contents (Elt Ideal)} {x3 : (⟨S4x20, .f32⟩ : BufTy).Contents (Elt Ideal)}
  {x4 : (⟨S4x512x20x64, .i8⟩ : BufTy).Contents (Elt Ideal)} {x5 : (⟨S4x20x64, .f32⟩ : BufTy).Contents (Elt Ideal)}

/-- What the precondition says of the arguments. -/
theorem small_of (H : letI := pre_facts; Cert.Pre_scores_fit.fn (F := Ideal) x0 x1 x2 x3 x4 x5 = fun _ => 1#1) :
    Small (refIn x0 x1 x2 x3 x4 x5) := by
  intro b i h
  have e : FloatOps.cmpf (F := Ideal) .ole (FloatOps.hostAbsf (val_main_v12 (F := Ideal) x1 x3 (ix3 b i h)))
      (FloatOps.ofBits .f32 0x437F0000#32) = 1#1 := congrFun H (ix3 b i h)
  have e2 : idx_main_v10 (idx_main_v11 (ix3 b i h)) = ix2 b h := eq_ix2 _
  rw [val_main_v12_apply, val_main_v11_apply, val_main_v10_apply, e2] at e
  have e3 : Ideal.cmp .ole (max (x1 (ix3 b i h) * x3 (ix2 b h)) (-(x1 (ix3 b i h) * x3 (ix2 b h)))) (Ideal.ofBits .f32 0x437F0000#32) = 1#1 := e
  rw [bits_255] at e3
  by_contra hn
  have hn' : ¬ max (x1 (ix3 b i h) * x3 (ix2 b h)) (-(x1 (ix3 b i h) * x3 (ix2 b h))) ≤ ((255 : ℝ) : EReal) := hn
  simp [Ideal.cmp, hn'] at e3

end

theorem frame_kernelIdeal_pre : letI := pre_facts; Cert.quiescent_KernelIdeal_pre_scores_fit (hKernelIdeal := Cert.KernelIdeal.Gen.facts) :=
  fun m ρ _ => frame_kernelIdeal m ρ trivial

theorem frame_referenceIdeal_pre :
    letI := pre_facts; Cert.quiescent_ReferenceIdeal_pre_scores_fit (hReferenceIdeal := Cert.ReferenceIdeal.Gen.facts) :=
  fun m ρ _ => frame_referenceIdeal m ρ trivial

/-- The arguments, seen from either side. -/
theorem args_eq (m : (ℓ : Loc Cert.KernelIdeal.nD Cert.KernelIdeal.τ Cert.KernelIdeal.sig) → Buf (Elt Ideal) ℓ) (c : Dev Cert.KernelIdeal.nD) :
    Cert.KernelIdeal.Launch.argsOf m c = Cert.ReferenceIdeal.Read.refIn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := rfl

theorem algebraic : letI := pre_facts; Cert.algebraic_KernelIdeal_ReferenceIdeal_pre_scores_fit
    (hKernelIdeal := Cert.KernelIdeal.Gen.facts) (hReferenceIdeal := Cert.ReferenceIdeal.Gen.facts) := by
  intro m ρ m' ρ' hpre hagree
  have hS : ∀ c, Small (Cert.KernelIdeal.Launch.argsOf m c) := fun c => by
    rw [args_eq]
    exact small_of (hpre c)
  refine ⟨fun c => Cert.KernelIdeal.Launch.G6 (Cert.KernelIdeal.Launch.argsOf m c), fun c => Cert.KernelIdeal.Launch.G7 (Cert.KernelIdeal.Launch.argsOf m c),
    fun c => Cert.KernelIdeal.Launch.G8 (Cert.KernelIdeal.Launch.argsOf m c), ?_, ?_⟩
  · refine (θ_run Cert.KernelIdeal.defs _ _).mono (fun _ h c => ?_) (Cert.KernelIdeal.Value.run_blocks (F := Ideal) m ρ)
    obtain ⟨h0, h1, h2, h3⟩ := h c
    exact ⟨h0.trans (Cert.KernelIdeal.Launch.final6 c (hS c)), h1.trans (Cert.KernelIdeal.Launch.final7 c (hS c)),
      h2.trans (Cert.KernelIdeal.Launch.final8 c (hS c)), h3⟩
  · refine (θ_run Cert.ReferenceIdeal.defs _ _).mono (fun _ h c => ?_) (Cert.ReferenceIdeal.Value.run (F := Ideal) m' ρ')
    obtain ⟨h0, h1, h2, h3⟩ := h c
    obtain ⟨a0, a1, a2, a3, a4, a5⟩ := hagree c
    have hc := hS c
    rw [args_eq, ← a0, ← a1, ← a2, ← a3, ← a4, ← a5] at hc
    refine ⟨(h0.trans (Cert.ReferenceIdeal.Read.val_main_v124_eq (F := Ideal) (StableHlo.launchContents m' c))).trans ?_,
      (h1.trans (Cert.ReferenceIdeal.Read.val_main_v126_eq (F := Ideal) (StableHlo.launchContents m' c))).trans ?_,
      (h2.trans (Cert.ReferenceIdeal.Read.val_main_v98_eq (F := Ideal) (StableHlo.launchContents m' c))).trans ?_, h3⟩
    · show _ = Cert.KernelIdeal.Launch.G6 (Cert.KernelIdeal.Launch.argsOf m c)
      rw [args_eq, ← a0, ← a1, ← a2, ← a3, ← a4, ← a5]
      exact Cert.ReferenceIdeal.Read.res_codes hc
    · show _ = Cert.KernelIdeal.Launch.G7 (Cert.KernelIdeal.Launch.argsOf m c)
      rw [args_eq, ← a0, ← a1, ← a2, ← a3, ← a4, ← a5]
      exact Cert.ReferenceIdeal.Read.res_scales hc
    · show _ = Cert.KernelIdeal.Launch.G8 (Cert.KernelIdeal.Launch.argsOf m c)
      rw [args_eq, ← a0, ← a1, ← a2, ← a3, ← a4, ← a5]
      exact Cert.ReferenceIdeal.Read.res_bytes hc

end Cert.Proof
-- ==== Proof.lean ====
module

public import proofs.«01_k».proof.Defs
public import proofs.«01_k».proof.Proof.Frames
public import proofs.«01_k».proof.Proof.Values

@[expose] public section

theorem Cert.Proof.claim : Cert.Claim :=
  ⟨Cert.Kernel.Gen.facts, Cert.KernelIdeal.Gen.facts, Cert.ReferenceIdeal.Gen.facts, pre_facts,
    frame_kernel, frame_kernelIdeal, frame_kernelIdeal_pre, frame_referenceIdeal, frame_referenceIdeal_pre, trivial, algebraic⟩
